-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![2048, 2048]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S4x256x512 : Shape := ⟨3, ![4, 256, 512]⟩
abbrev S3 : Shape := ⟨1, ![3]⟩
abbrev S256x512 : Shape := ⟨2, ![256, 512]⟩
abbrev S1x256x512 : Shape := ⟨3, ![1, 256, 512]⟩
abbrev S_ : Shape := ⟨0, ![]⟩
abbrev S512x512 : Shape := ⟨2, ![512, 512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .local _ .vmem, ⟨0, _⟩ => ⟨S512x2048, .f32⟩
  | .local _ .vmem, ⟨1, _⟩ => ⟨S2048x512, .f32⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v10 : BitVec 32 := Scalar.muli v2 c256_i32
  let v11 : Index := Scalar.indexCast v10
  let c0 : Index := 0#32
  ![v11.toNat, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_6 : BitVec 32 := 256#32
  let v18 : BitVec 32 := Scalar.muli v2 c256_i32_6
  let v19 : Index := Scalar.indexCast v18
  let c512 : Index := 512#32
  ![v19.toNat, 512]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_9 : BitVec 32 := 256#32
  let v26 : BitVec 32 := Scalar.muli v2 c256_i32_9
  let v27 : Index := Scalar.indexCast v26
  let c1024 : Index := 1024#32
  ![v27.toNat, 1024]
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_12 : BitVec 32 := 256#32
  let v34 : BitVec 32 := Scalar.muli v2 c256_i32_12
  let v35 : Index := Scalar.indexCast v34
  let c1536 : Index := 1536#32
  ![v35.toNat, 1536]
def k0_dev1 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v54 : BitVec 32 := Scalar.muli v2 c16_i32_22
  let v55 : BitVec 32 := Scalar.addi c0_i32_23 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v43 : BitVec 32 := Scalar.addi v5 c1_i32_15
  let c4_i32_16 : BitVec 32 := 4#32
  let c0_i32 : BitVec 32 := 0#32
  let v44 : BitVec 1 := Scalar.cmpi .eq c4_i32_16 c0_i32
  let c1_i32_17 : BitVec 32 := 1#32
  let v45 : BitVec 32 := Scalar.select v44 c1_i32_17 c4_i32_16
  let v46 : BitVec 32 := Scalar.remsi v43 v45
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let c0_i32_18 : BitVec 32 := 0#32
  let v47 : BitVec 1 := Scalar.cmpi .ne v46 c0_i32_18
  let v51 : BitVec 1 := Scalar.andi v50 v47
  let v52 : BitVec 32 := Scalar.addi v46 v45
  let v53 : BitVec 32 := Scalar.select v51 v52 v46
  let c4_i32_24 : BitVec 32 := 4#32
  let v56 : BitVec 32 := Scalar.muli v53 c4_i32_24
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v58 : BitVec 32 := Scalar.muli v8 c1_i32_25
  let v59 : BitVec 32 := Scalar.addi v57 v58
  v59.toNat
def k0_dev2 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v71 : BitVec 32 := Scalar.muli v2 c16_i32_34
  let v72 : BitVec 32 := Scalar.addi c0_i32_35 v71
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_26 : BitVec 32 := 2#32
  let v60 : BitVec 32 := Scalar.addi v5 c2_i32_26
  let c4_i32_27 : BitVec 32 := 4#32
  let c0_i32_28 : BitVec 32 := 0#32
  let v61 : BitVec 1 := Scalar.cmpi .eq c4_i32_27 c0_i32_28
  let c1_i32_29 : BitVec 32 := 1#32
  let v62 : BitVec 32 := Scalar.select v61 c1_i32_29 c4_i32_27
  let v63 : BitVec 32 := Scalar.remsi v60 v62
  let c0_i32_31 : BitVec 32 := 0#32
  let v65 : BitVec 1 := Scalar.cmpi .slt v63 c0_i32_31
  let c0_i32_32 : BitVec 32 := 0#32
  let v66 : BitVec 1 := Scalar.cmpi .slt v62 c0_i32_32
  let v67 : BitVec 1 := Scalar.xori v65 v66
  let c0_i32_30 : BitVec 32 := 0#32
  let v64 : BitVec 1 := Scalar.cmpi .ne v63 c0_i32_30
  let v68 : BitVec 1 := Scalar.andi v67 v64
  let v69 : BitVec 32 := Scalar.addi v63 v62
  let v70 : BitVec 32 := Scalar.select v68 v69 v63
  let c4_i32_36 : BitVec 32 := 4#32
  let v73 : BitVec 32 := Scalar.muli v70 c4_i32_36
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v75 : BitVec 32 := Scalar.muli v8 c1_i32_37
  let v76 : BitVec 32 := Scalar.addi v74 v75
  v76.toNat
def k0_dev3 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v88 : BitVec 32 := Scalar.muli v2 c16_i32_45
  let v89 : BitVec 32 := Scalar.addi c0_i32_46 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v77 : BitVec 32 := Scalar.addi v5 c3_i32
  let c4_i32_38 : BitVec 32 := 4#32
  let c0_i32_39 : BitVec 32 := 0#32
  let v78 : BitVec 1 := Scalar.cmpi .eq c4_i32_38 c0_i32_39
  let c1_i32_40 : BitVec 32 := 1#32
  let v79 : BitVec 32 := Scalar.select v78 c1_i32_40 c4_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c4_i32_47 : BitVec 32 := 4#32
  let v90 : BitVec 32 := Scalar.muli v87 c4_i32_47
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v92 : BitVec 32 := Scalar.muli v8 c1_i32_48
  let v93 : BitVec 32 := Scalar.addi v91 v92
  v93.toNat
def k0_dev4 (d0 : Dev nD) : Nat :=
  let c0_i32_51 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_50 : BitVec 32 := 16#32
  let v94 : BitVec 32 := Scalar.muli v9 c16_i32_50
  let v95 : BitVec 32 := Scalar.addi c0_i32_51 v94
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v96 : BitVec 32 := Scalar.muli v5 c4_i32_52
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v98 : BitVec 32 := Scalar.muli v8 c1_i32_53
  let v99 : BitVec 32 := Scalar.addi v97 v98
  v99.toNat
def k0_off5 (d0 : Dev nD) : Fin 2 → Nat :=
  let c0_55 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32 : BitVec 32 := 512#32
  let v100 : BitVec 32 := Scalar.muli v5 c512_i32
  let v101 : Index := Scalar.indexCast v100
  ![0, v101.toNat]
def k0_off6 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_56 : BitVec 32 := 512#32
  let v104 : BitVec 32 := Scalar.muli v5 c512_i32_56
  let v105 : Index := Scalar.indexCast v104
  let c0_57 : Index := 0#32
  ![v105.toNat, 0]
def k0_off7 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_71 : BitVec 32 := 0#32
  let c0_i32_72 : BitVec 32 := 0#32
  ![v5.toNat, 0, 0]
def k0_off8 (d0 : Dev nD) (c1_i32_58 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v107 : BitVec 32 := Scalar.addi v5 c1_i32_58
  let c4_i32_59 : BitVec 32 := 4#32
  let c0_i32_60 : BitVec 32 := 0#32
  let v108 : BitVec 1 := Scalar.cmpi .eq c4_i32_59 c0_i32_60
  let c1_i32_61 : BitVec 32 := 1#32
  let v109 : BitVec 32 := Scalar.select v108 c1_i32_61 c4_i32_59
  let v110 : BitVec 32 := Scalar.remsi v107 v109
  let c0_i32_63 : BitVec 32 := 0#32
  let v112 : BitVec 1 := Scalar.cmpi .slt v110 c0_i32_63
  let c0_i32_64 : BitVec 32 := 0#32
  let v113 : BitVec 1 := Scalar.cmpi .slt v109 c0_i32_64
  let v114 : BitVec 1 := Scalar.xori v112 v113
  let c0_i32_62 : BitVec 32 := 0#32
  let v111 : BitVec 1 := Scalar.cmpi .ne v110 c0_i32_62
  let v115 : BitVec 1 := Scalar.andi v114 v111
  let v116 : BitVec 32 := Scalar.addi v110 v109
  let v117 : BitVec 32 := Scalar.select v115 v116 v110
  let c0_i32_73 : BitVec 32 := 0#32
  let c0_i32_74 : BitVec 32 := 0#32
  ![v117.toNat, 0, 0]
def k0_dev5 (d0 : Dev nD) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v118 : BitVec 32 := Scalar.muli v2 c16_i32_67
  let v119 : BitVec 32 := Scalar.addi c0_i32_68 v118
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_58 : BitVec 32 := 1#32
  let v107 : BitVec 32 := Scalar.addi v5 c1_i32_58
  let c4_i32_59 : BitVec 32 := 4#32
  let c0_i32_60 : BitVec 32 := 0#32
  let v108 : BitVec 1 := Scalar.cmpi .eq c4_i32_59 c0_i32_60
  let c1_i32_61 : BitVec 32 := 1#32
  let v109 : BitVec 32 := Scalar.select v108 c1_i32_61 c4_i32_59
  let v110 : BitVec 32 := Scalar.remsi v107 v109
  let c0_i32_63 : BitVec 32 := 0#32
  let v112 : BitVec 1 := Scalar.cmpi .slt v110 c0_i32_63
  let c0_i32_64 : BitVec 32 := 0#32
  let v113 : BitVec 1 := Scalar.cmpi .slt v109 c0_i32_64
  let v114 : BitVec 1 := Scalar.xori v112 v113
  let c0_i32_62 : BitVec 32 := 0#32
  let v111 : BitVec 1 := Scalar.cmpi .ne v110 c0_i32_62
  let v115 : BitVec 1 := Scalar.andi v114 v111
  let v116 : BitVec 32 := Scalar.addi v110 v109
  let v117 : BitVec 32 := Scalar.select v115 v116 v110
  let c4_i32_69 : BitVec 32 := 4#32
  let v120 : BitVec 32 := Scalar.muli v117 c4_i32_69
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v122 : BitVec 32 := Scalar.muli v8 c1_i32_70
  let v123 : BitVec 32 := Scalar.addi v121 v122
  v123.toNat
def k0_dev6 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v143 : BitVec 32 := Scalar.muli v2 c16_i32_84
  let v144 : BitVec 32 := Scalar.addi c0_i32_85 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_75 : BitVec 32 := 2#32
  let v132 : BitVec 32 := Scalar.addi v5 c2_i32_75
  let c4_i32_76 : BitVec 32 := 4#32
  let c0_i32_77 : BitVec 32 := 0#32
  let v133 : BitVec 1 := Scalar.cmpi .eq c4_i32_76 c0_i32_77
  let c1_i32_78 : BitVec 32 := 1#32
  let v134 : BitVec 32 := Scalar.select v133 c1_i32_78 c4_i32_76
  let v135 : BitVec 32 := Scalar.remsi v132 v134
  let c0_i32_80 : BitVec 32 := 0#32
  let v137 : BitVec 1 := Scalar.cmpi .slt v135 c0_i32_80
  let c0_i32_81 : BitVec 32 := 0#32
  let v138 : BitVec 1 := Scalar.cmpi .slt v134 c0_i32_81
  let v139 : BitVec 1 := Scalar.xori v137 v138
  let c0_i32_79 : BitVec 32 := 0#32
  let v136 : BitVec 1 := Scalar.cmpi .ne v135 c0_i32_79
  let v140 : BitVec 1 := Scalar.andi v139 v136
  let v141 : BitVec 32 := Scalar.addi v135 v134
  let v142 : BitVec 32 := Scalar.select v140 v141 v135
  let c4_i32_86 : BitVec 32 := 4#32
  let v145 : BitVec 32 := Scalar.muli v142 c4_i32_86
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v147 : BitVec 32 := Scalar.muli v8 c1_i32_87
  let v148 : BitVec 32 := Scalar.addi v146 v147
  v148.toNat
def k0_dev7 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v168 : BitVec 32 := Scalar.muli v2 c16_i32_101
  let v169 : BitVec 32 := Scalar.addi c0_i32_102 v168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_92 : BitVec 32 := 3#32
  let v157 : BitVec 32 := Scalar.addi v5 c3_i32_92
  let c4_i32_93 : BitVec 32 := 4#32
  let c0_i32_94 : BitVec 32 := 0#32
  let v158 : BitVec 1 := Scalar.cmpi .eq c4_i32_93 c0_i32_94
  let c1_i32_95 : BitVec 32 := 1#32
  let v159 : BitVec 32 := Scalar.select v158 c1_i32_95 c4_i32_93
  let v160 : BitVec 32 := Scalar.remsi v157 v159
  let c0_i32_97 : BitVec 32 := 0#32
  let v162 : BitVec 1 := Scalar.cmpi .slt v160 c0_i32_97
  let c0_i32_98 : BitVec 32 := 0#32
  let v163 : BitVec 1 := Scalar.cmpi .slt v159 c0_i32_98
  let v164 : BitVec 1 := Scalar.xori v162 v163
  let c0_i32_96 : BitVec 32 := 0#32
  let v161 : BitVec 1 := Scalar.cmpi .ne v160 c0_i32_96
  let v165 : BitVec 1 := Scalar.andi v164 v161
  let v166 : BitVec 32 := Scalar.addi v160 v159
  let v167 : BitVec 32 := Scalar.select v165 v166 v160
  let c4_i32_103 : BitVec 32 := 4#32
  let v170 : BitVec 32 := Scalar.muli v167 c4_i32_103
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v172 : BitVec 32 := Scalar.muli v8 c1_i32_104
  let v173 : BitVec 32 := Scalar.addi v171 v172
  v173.toNat
def k0_off9 (d0 : Dev nD) (c1_i32_109 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v182 : BitVec 32 := Scalar.subi v5 c1_i32_109
  let c4_i32_110 : BitVec 32 := 4#32
  let c0_i32_111 : BitVec 32 := 0#32
  let v183 : BitVec 1 := Scalar.cmpi .eq c4_i32_110 c0_i32_111
  let c1_i32_112 : BitVec 32 := 1#32
  let v184 : BitVec 32 := Scalar.select v183 c1_i32_112 c4_i32_110
  let v185 : BitVec 32 := Scalar.remsi v182 v184
  let c0_i32_114 : BitVec 32 := 0#32
  let v187 : BitVec 1 := Scalar.cmpi .slt v185 c0_i32_114
  let c0_i32_115 : BitVec 32 := 0#32
  let v188 : BitVec 1 := Scalar.cmpi .slt v184 c0_i32_115
  let v189 : BitVec 1 := Scalar.xori v187 v188
  let c0_i32_113 : BitVec 32 := 0#32
  let v186 : BitVec 1 := Scalar.cmpi .ne v185 c0_i32_113
  let v190 : BitVec 1 := Scalar.andi v189 v186
  let v191 : BitVec 32 := Scalar.addi v185 v184
  let v192 : BitVec 32 := Scalar.select v190 v191 v185
  let c0_i32_132 : BitVec 32 := 0#32
  let c0_i32_133 : BitVec 32 := 0#32
  ![v192.toNat, 0, 0]
def k0_dev8 (d0 : Dev nD) : Nat :=
  let c0_i32_129 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_128 : BitVec 32 := 16#32
  let v205 : BitVec 32 := Scalar.muli v9 c16_i32_128
  let v206 : BitVec 32 := Scalar.addi c0_i32_129 v205
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v207 : BitVec 32 := Scalar.muli v5 c4_i32_130
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v209 : BitVec 32 := Scalar.muli v8 c1_i32_131
  let v210 : BitVec 32 := Scalar.addi v208 v209
  v210.toNat
def k0_off10 (d0 : Dev nD) (c1_i32_109 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v182 : BitVec 32 := Scalar.subi v5 c1_i32_109
  let c4_i32_110 : BitVec 32 := 4#32
  let c0_i32_111 : BitVec 32 := 0#32
  let v183 : BitVec 1 := Scalar.cmpi .eq c4_i32_110 c0_i32_111
  let c1_i32_112 : BitVec 32 := 1#32
  let v184 : BitVec 32 := Scalar.select v183 c1_i32_112 c4_i32_110
  let v185 : BitVec 32 := Scalar.remsi v182 v184
  let c0_i32_114 : BitVec 32 := 0#32
  let v187 : BitVec 1 := Scalar.cmpi .slt v185 c0_i32_114
  let c0_i32_115 : BitVec 32 := 0#32
  let v188 : BitVec 1 := Scalar.cmpi .slt v184 c0_i32_115
  let v189 : BitVec 1 := Scalar.xori v187 v188
  let c0_i32_113 : BitVec 32 := 0#32
  let v186 : BitVec 1 := Scalar.cmpi .ne v185 c0_i32_113
  let v190 : BitVec 1 := Scalar.andi v189 v186
  let v191 : BitVec 32 := Scalar.addi v185 v184
  let v192 : BitVec 32 := Scalar.select v190 v191 v185
  let v219 : Index := Scalar.indexCast v192
  let c0_136 : Index := 0#32
  let c0_137 : Index := 0#32
  ![v219.toNat, 0, 0]
def k0_off11 (d0 : Dev nD) (c1_i32_109 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v182 : BitVec 32 := Scalar.subi v5 c1_i32_109
  let c4_i32_110 : BitVec 32 := 4#32
  let c0_i32_111 : BitVec 32 := 0#32
  let v183 : BitVec 1 := Scalar.cmpi .eq c4_i32_110 c0_i32_111
  let c1_i32_112 : BitVec 32 := 1#32
  let v184 : BitVec 32 := Scalar.select v183 c1_i32_112 c4_i32_110
  let v185 : BitVec 32 := Scalar.remsi v182 v184
  let c0_i32_114 : BitVec 32 := 0#32
  let v187 : BitVec 1 := Scalar.cmpi .slt v185 c0_i32_114
  let c0_i32_115 : BitVec 32 := 0#32
  let v188 : BitVec 1 := Scalar.cmpi .slt v184 c0_i32_115
  let v189 : BitVec 1 := Scalar.xori v187 v188
  let c0_i32_113 : BitVec 32 := 0#32
  let v186 : BitVec 1 := Scalar.cmpi .ne v185 c0_i32_113
  let v190 : BitVec 1 := Scalar.andi v189 v186
  let v191 : BitVec 32 := Scalar.addi v185 v184
  let v192 : BitVec 32 := Scalar.select v190 v191 v185
  let c512_i32_138 : BitVec 32 := 512#32
  let v223 : BitVec 32 := Scalar.muli v192 c512_i32_138
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_139 : BitVec 32 := 256#32
  let v224 : BitVec 32 := Scalar.muli v2 c256_i32_139
  let v225 : BitVec 32 := Scalar.addi v223 v224
  let v226 : Index := Scalar.indexCast v225
  let c0_140 : Index := 0#32
  ![v226.toNat, 0]
def k0_dev9 (d0 : Dev nD) : Nat :=
  let c0_i32_161 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_160 : BitVec 32 := 16#32
  let v251 : BitVec 32 := Scalar.muli v9 c16_i32_160
  let v252 : BitVec 32 := Scalar.addi c0_i32_161 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_162 : BitVec 32 := 4#32
  let v253 : BitVec 32 := Scalar.muli v5 c4_i32_162
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v255 : BitVec 32 := Scalar.muli v8 c1_i32_163
  let v256 : BitVec 32 := Scalar.addi v254 v255
  v256.toNat
def k0_dev10 (d0 : Dev nD) : Nat :=
  let c0_i32_193 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_192 : BitVec 32 := 16#32
  let v297 : BitVec 32 := Scalar.muli v9 c16_i32_192
  let v298 : BitVec 32 := Scalar.addi c0_i32_193 v297
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_194 : BitVec 32 := 4#32
  let v299 : BitVec 32 := Scalar.muli v5 c4_i32_194
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v301 : BitVec 32 := Scalar.muli v8 c1_i32_195
  let v302 : BitVec 32 := Scalar.addi v300 v301
  v302.toNat
def k0_off12 (d0 : Dev nD) (c1_i32_205 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v320 : BitVec 32 := Scalar.subi v5 c1_i32_205
  let c4_i32_206 : BitVec 32 := 4#32
  let c0_i32_207 : BitVec 32 := 0#32
  let v321 : BitVec 1 := Scalar.cmpi .eq c4_i32_206 c0_i32_207
  let c1_i32_208 : BitVec 32 := 1#32
  let v322 : BitVec 32 := Scalar.select v321 c1_i32_208 c4_i32_206
  let v323 : BitVec 32 := Scalar.remsi v320 v322
  let c0_i32_210 : BitVec 32 := 0#32
  let v325 : BitVec 1 := Scalar.cmpi .slt v323 c0_i32_210
  let c0_i32_211 : BitVec 32 := 0#32
  let v326 : BitVec 1 := Scalar.cmpi .slt v322 c0_i32_211
  let v327 : BitVec 1 := Scalar.xori v325 v326
  let c0_i32_209 : BitVec 32 := 0#32
  let v324 : BitVec 1 := Scalar.cmpi .ne v323 c0_i32_209
  let v328 : BitVec 1 := Scalar.andi v327 v324
  let v329 : BitVec 32 := Scalar.addi v323 v322
  let v330 : BitVec 32 := Scalar.select v328 v329 v323
  let c512_i32_224 : BitVec 32 := 512#32
  let v347 : BitVec 32 := Scalar.muli v330 c512_i32_224
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_225 : BitVec 32 := 256#32
  let v348 : BitVec 32 := Scalar.muli v9 c256_i32_225
  let v349 : BitVec 32 := Scalar.addi v347 v348
  let v350 : Index := Scalar.indexCast v349
  let c0_226 : Index := 0#32
  ![v350.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 1
  | .vmem => 0
  | .smem => 0
  | _ => 0

abbrev bufTy : (tb : Table) → Fin (tcTables nBuf tb) → BufTy
  | .hbm, ⟨0, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The mesh of thirty-two devices as the kernel walks it: which device each signal and copy is addressed to,
which slot of a four-slot buffer and which rows of the result each step names.
-/
module

public import proofs.«01_k».proof.Proof.Gen.KernelIdeal
public import proofs.«01_k».proof.Proof.Gen.KernelIdeal.Skeleton

@[expose] public section

noncomputable section

namespace Cert.Swap

open Cert.KernelIdeal Cert.KernelIdeal.Gen
open Idealize.ShloMosaic

/-! ## Devices

Device `c` stands at `(c / 16, c / 4 % 4, c % 4)` of the 2 × 4 × 4 mesh. -/

/-- The position of `c` along the axis of four over which rows are exchanged. -/
def row (c : Dev nD) : Fin 4 := ⟨c.val / 4 % 4, Nat.mod_lt _ (by decide)⟩

/-- Which of the two halves of every exchanged row block `c` converts and sends: its position on the axis of two. -/
def half (c : Dev nD) : Fin 2 := ⟨c.val / 16, Nat.div_lt_of_lt_mul c.isLt⟩

/-- The device of row `i` and half `h` in the column of `c`. -/
def at_ (c : Dev nD) (h : Fin 2) (i : Fin 4) : Dev nD :=
  ⟨16 * h.val + 4 * i.val + c.val % 4, by
    have := h.isLt; have := i.isLt; have := Nat.mod_lt c.val (show 0 < 4 by decide)
    show _ < 32
    omega⟩

/-- The device `k + 1` rows further around the axis of four; -/
def ahead (k : Fin 3) (c : Dev nD) : Dev nD := at_ c (half c) (row c + k.castSucc + 1)
/-- the device `k + 1` rows before; -/
def behind (k : Fin 3) (c : Dev nD) : Dev nD := at_ c (half c) (row c - k.castSucc - 1)
/-- the device across the axis of two. -/
def mate (c : Dev nD) : Dev nD := at_ c (1 - half c) (row c)

theorem behind_ahead (k : Fin 3) (c : Dev nD) : behind k (ahead k c) = c := by revert k c; decide
theorem ahead_behind (k : Fin 3) (c : Dev nD) : ahead k (behind k c) = c := by revert k c; decide
theorem mate_mate (c : Dev nD) : mate (mate c) = c := by revert c; decide
/-- Three steps of four: going back the complementary distance is going ahead. -/
theorem behind_rev (k : Fin 3) (c : Dev nD) : behind k.rev c = ahead k c := by revert k c; decide
theorem row_mate (c : Dev nD) : row (mate c) = row c := by revert c; decide
theorem row_behind_mate (k : Fin 3) (c : Dev nD) : row (behind k (mate c)) = row (behind k c) := by revert k c; decide
theorem mate_behind (k : Fin 3) (c : Dev nD) : mate (behind k c) = behind k (mate c) := by revert k c; decide

/-- Going ahead, and crossing to the mate, permute the devices. -/
def aheadE (k : Fin 3) : Dev nD ≃ Dev nD := ⟨ahead k, behind k, behind_ahead k, ahead_behind k⟩
def mateE : Dev nD ≃ Dev nD := ⟨mate, mate, mate_mate, mate_mate⟩

/-! ## The device words of the kernel -/

theorem dev1_eq (c : Dev nD) : (⟨k0_dev1 c, k0_dev1_lt c⟩ : Dev nD) = ahead 0 c := by revert c; decide +kernel
theorem dev2_eq (c : Dev nD) : (⟨k0_dev2 c, k0_dev2_lt c⟩ : Dev nD) = ahead 1 c := by revert c; decide +kernel
theorem dev3_eq (c : Dev nD) : (⟨k0_dev3 c, k0_dev3_lt c⟩ : Dev nD) = ahead 2 c := by revert c; decide +kernel
theorem dev4_eq (c : Dev nD) : (⟨k0_dev4 c, k0_dev4_lt c⟩ : Dev nD) = mate c := by revert c; decide +kernel
theorem dev5_eq (c : Dev nD) : (⟨k0_dev5 c, k0_dev5_lt c⟩ : Dev nD) = ahead 0 c := by revert c; decide +kernel
theorem dev6_eq (c : Dev nD) : (⟨k0_dev6 c, k0_dev6_lt c⟩ : Dev nD) = ahead 1 c := by revert c; decide +kernel
theorem dev7_eq (c : Dev nD) : (⟨k0_dev7 c, k0_dev7_lt c⟩ : Dev nD) = ahead 2 c := by revert c; decide +kernel
theorem dev8_eq (c : Dev nD) : (⟨k0_dev8 c, k0_dev8_lt c⟩ : Dev nD) = mate c := by revert c; decide +kernel
theorem dev9_eq (c : Dev nD) : (⟨k0_dev9 c, k0_dev9_lt c⟩ : Dev nD) = mate c := by revert c; decide +kernel
theorem dev10_eq (c : Dev nD) : (⟨k0_dev10 c, k0_dev10_lt c⟩ : Dev nD) = mate c := by revert c; decide +kernel

/-! ## The offsets of the kernel

Slots are named by a row of the mesh; a block of 256 rows of the result by its number among eight. -/

/-- Where slot `s` of a four-slot buffer begins. -/
abbrev slotOff (s : Fin 4) : Fin 3 → Nat := ![s.val, 0, 0]
/-- Where block `b` of 256 rows of the result begins. -/
abbrev blockOff (b : Fin 8) : Fin 2 → Nat := ![256 * b.val, 0]
/-- The number of the block of 256 rows that is half `h` of the row block of mesh row `i`. -/
def blockOf (i : Fin 4) (h : Fin 2) : Fin 8 := ⟨2 * i.val + h.val, by have := i.isLt; have := h.isLt; omega⟩

theorem off7_eq (c : Dev nD) : k0_off7 c = slotOff (row c) := k0_off7_eq c
theorem off8_eq (k : Fin 3) (c : Dev nD) : k0_off8 c (BitVec.ofNat 32 (1 + k.val)) = slotOff (row (ahead k c)) := by
  revert k c; decide +kernel
theorem off9_eq (k : Fin 3) (c : Dev nD) : k0_off9 c (BitVec.ofNat 32 (1 + k.val)) = slotOff (row (behind k c)) := by
  revert k c; decide +kernel
theorem off10_eq (k : Fin 3) (c : Dev nD) : k0_off10 c (BitVec.ofNat 32 (1 + k.val)) = slotOff (row (behind k c)) := by
  revert k c; decide +kernel
theorem off11_eq (k : Fin 3) (c : Dev nD) :
    k0_off11 c (BitVec.ofNat 32 (1 + k.val)) = blockOff (blockOf (row (behind k c)) (half c)) := by
  revert k c; decide +kernel
theorem off12_eq (k : Fin 3) (c : Dev nD) :
    k0_off12 c (BitVec.ofNat 32 (1 + k.val)) = blockOff (blockOf (row (behind k c)) (half (mate c))) := by
  revert k c; decide +kernel
theorem off6_eq (c : Dev nD) : k0_off6 c = blockOff (blockOf (row c) 0) := by
  revert c; decide +kernel

theorem off5_eq (c : Dev nD) : k0_off5 c = ![0, 512 * (row c).val] := by
  revert c; decide +kernel

/-- The device of row `i` and half `h` in one's column, at the rows behind: it is behind oneself, or behind the mate. -/
theorem at_behind (k : Fin 3) (c : Dev nD) : at_ c (half c) (row (behind k c)) = behind k c := by revert k c; decide +kernel
theorem at_behind_mate (k : Fin 3) (c : Dev nD) : at_ c (half (mate c)) (row (behind k c)) = behind k (mate c) := by
  revert k c; decide +kernel
theorem row_behind_ne (k : Fin 3) (c : Dev nD) : row (behind k c) ≠ row c := by revert k c; decide +kernel

/-- Where the piece of the input begins that device `c` sends to row `j`: its own half of the rows, the columns of `j`. -/
abbrev pieceOff (c : Dev nD) (j : Fin 4) : Fin 2 → Nat := ![256 * (half c).val, 512 * j.val]

theorem off1_eq (c : Dev nD) : k0_off1 c = pieceOff c 0 := k0_off1_eq c
theorem off2_eq (c : Dev nD) : k0_off2 c = pieceOff c 1 := k0_off2_eq c
theorem off3_eq (c : Dev nD) : k0_off3 c = pieceOff c 2 := k0_off3_eq c
theorem off4_eq (c : Dev nD) : k0_off4 c = pieceOff c 3 := k0_off4_eq c

/-- The blocks a device writes, in the order of its stores — its own two, one half from each device behind it, the
    other half from its mate — are all eight. -/
theorem blocks_all (c : Dev nD) :
    insert (blockOf (row (behind 2 c)) (half (mate c))) (insert (blockOf (row (behind 1 c)) (half (mate c)))
      (insert (blockOf (row (behind 0 c)) (half (mate c))) (insert (blockOf (row (behind 2 c)) (half c))
        (insert (blockOf (row (behind 1 c)) (half c)) (insert (blockOf (row (behind 0 c)) (half c))
          ({blockOf (row c) 0, blockOf (row c) 1} : Finset (Fin 8))))))) = Finset.univ := by
  revert c; decide +kernel

/-- The four rows of the mesh: one's own and those of the three devices ahead, -/
theorem rows_ahead (c : Dev nD) : ([row c, row (ahead 0 c), row (ahead 1 c), row (ahead 2 c)] : List (Fin 4)).Nodup ∧
    ∀ s : Fin 4, s ∈ [row c, row (ahead 0 c), row (ahead 1 c), row (ahead 2 c)] := by revert c; decide +kernel
/-- or one's own and those of the three behind. -/
theorem rows_behind (c : Dev nD) : ([row c, row (behind 0 c), row (behind 1 c), row (behind 2 c)] : List (Fin 4)).Nodup ∧
    ∀ s : Fin 4, s ∈ [row c, row (behind 0 c), row (behind 1 c), row (behind 2 c)] := by revert c; decide +kernel

end Cert.Swap

end
-- ==== Proof.Slots.lean ====
/-
The three four-slot scratch buffers held slot by slot: a slot held at some contents, a slot known to hold a tile, and
what a load, a store and a copy do to them.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds, and this kernel's with four names of duties -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Slots -/

/-- A four-slot scratch buffer of the kernel, as an operand. -/
abbrev Buf4 : Type := Memref sig .tc .vmem S4x256x512 .bf16
/-- What a slot holds: one tile of 256 × 512. -/
abbrev Tile (F : FTy → Type) : Type := S1x256x512.Idx → Elt F .bf16

abbrev sendM : Buf4 := Memref.whole cc0_scratch0
abbrev gotM : Buf4 := Memref.whole cc0_scratch1
abbrev fwdM : Buf4 := Memref.whole cc0_scratch2

theorem slot_inb (s : Fin 4) : ∀ a, slotOff s a + S1x256x512.size a ≤ S4x256x512.size a := by revert s; decide

/-- Slot `s` of a buffer. -/
abbrev slotR (s : Fin 4) : Rect S4x256x512 := Rect.unit (s := S4x256x512) (slotOff s) S1x256x512.size (slot_inb s)
abbrev slotV (M : Buf4) (s : Fin 4) : View sig .tc .vmem S1x256x512 .bf16 := M.access (slotR s)

/-- Device `c` holds slot `s` of `M` at share `q`, and it reads the tile `T`. -/
def holds (M : Buf4) (c : Dev nD) (s : Fin 4) (q : PosShare TreeShare) (T : Tile F) : sProp 𝕄 :=
  iprop(∃ f : Buf (Elt F) ((slotV M s).loc (c : Thread nD τ)), ⌜(slotV M s).read (Elt F) f = T⌝
    ∗ ((slotV M s).loc (c : Thread nD τ) ↦[(slotV M s).set]{q} f))

/-- Device `c` holds slot `s` of `M` outright, at some contents. -/
def spare (M : Buf4) (c : Dev nD) (s : Fin 4) : sProp 𝕄 :=
  iprop(∃ f : Buf (Elt F) ((slotV M s).loc (c : Thread nD τ)), ((slotV M s).loc (c : Thread nD τ) ↦[(slotV M s).set]{fullShare} f))

instance holds_storable (M : Buf4) (c : Dev nD) (s : Fin 4) (q) (T : Tile F) : BI.Storable (upEmb : UEmb _ 𝕄) (holds M c s q T) := by
  unfold holds; infer_instance
instance spare_storable (M : Buf4) (c : Dev nD) (s : Fin 4) : BI.Storable (upEmb : UEmb _ 𝕄) (spare (F := F) M c s) := by
  unfold spare; infer_instance

/-- A slot that holds a tile is held at some contents. -/
theorem holds_spare (M : Buf4) (c : Dev nD) (s : Fin 4) (T : Tile F) : holds M c s fullShare T ⊢ (spare M c s : sProp 𝕄) := by
  unfold holds spare
  iintro ⟨%f, -, H⟩
  iexists f; iexact H

/-- A slot held outright is held twice at half share; -/
theorem holds_halve (M : Buf4) (c : Dev nD) (s : Fin 4) (T : Tile F) :
    holds M c s fullShare T ⊢ (iprop(holds M c s fullShare.left T ∗ holds M c s fullShare.right T) : sProp 𝕄) := by
  unfold holds
  iintro ⟨%f, %hf, H⟩
  ihave H2 := (pointsTo_share (PosShare.mem_left_op_right fullShare)).1 $$ H
  icases H2 with ⟨Hl, Hr⟩
  isplitl [Hl]
  · iexists f; isplitr; · (ipureintro; exact hf)
    iexact Hl
  · iexists f; isplitr; · (ipureintro; exact hf)
    iexact Hr

/-- and the two halves are the slot again. -/
theorem halves_spare (M : Buf4) (c : Dev nD) (s : Fin 4) (T T' : Tile F) :
    iprop(holds M c s fullShare.left T ∗ holds M c s fullShare.right T') ⊢ (spare M c s : sProp 𝕄) := by
  unfold holds spare
  iintro ⟨⟨%f, -, Hl⟩, ⟨%g, -, Hr⟩⟩
  ihave %hfg := (pointsTo_agree) $$ [Hl Hr]
  · isplitl [Hl] <;> iassumption
  ihave Hr' := (Entails.of_eq (pointsTo_congr (f := g) (g := f) (fun i hi => ((hfg i (Finset.mem_inter.mpr ⟨hi, hi⟩)).1).symm))) $$ Hr
  iexists f
  iapply (pointsTo_share (PosShare.mem_left_op_right fullShare)).2
  isplitl [Hl] <;> iassumption

/-! ## What a store, a load and a copy do to a slot -/

/-- A store of a tile to a slot leaves the slot holding it. -/
theorem slot_store {M : Buf4} {c : Dev nD} {s : Fin 4} {off : Fin 3 → Nat} {inb} (hoff : off = slotOff s) (T : Tile F)
    {hx} {hm} {α : Type} {k : PUnit → Prog (TpuEff nD τ sig (Elt F) Λ₀ .tc) α} {Q : α → sProp 𝕄} :
    (spare M c s : sProp 𝕄) ⊢ iprop((holds M c s fullShare T -∗ WP c (k ⟨⟩) Q)
      -∗ WP c (.op (.store M (Rect.unit (s := S4x256x512) off S1x256x512.size inb) T Finset.univ hx hm) k) Q) := by
  subst hoff
  unfold spare holds
  iintro ⟨%f, H⟩ Hk
  iapply (wp_store 𝒱₀ (c : Thread nD τ) none Set.univ (m := M) (r := slotR s) (Mk := Finset.univ) (S := (slotV M s).set) subset_rfl) $$ H
  iintro H
  iapply Hk
  iexists ((slotV M s).write (Elt F) f T Finset.univ)
  isplitr
  · ipureintro; exact View.read_write_univ _ _
  iexact H

/-- A load of a slot that holds a tile reads the tile; -/
theorem slot_load {M : Buf4} {c : Dev nD} {s : Fin 4} {q : PosShare TreeShare} {T : Tile F} {off : Fin 3 → Nat} {inb}
    (hoff : off = slotOff s) {hl} {α : Type} {k : Tile F → Prog (TpuEff nD τ sig (Elt F) Λ₀ .tc) α} {Q : α → sProp 𝕄} :
    (holds M c s q T : sProp 𝕄) ⊢ iprop((holds M c s q T -∗ WP c (k T) Q)
      -∗ WP c (.op (.load M (Rect.unit (s := S4x256x512) off S1x256x512.size inb).toLoadRect hl) k) Q) := by
  subst hoff
  unfold holds
  iintro ⟨%f, %hf, H⟩ Hk
  iapply (wp_load_rect 𝒱₀ (c : Thread nD τ) none Set.univ (m := M) (r := slotR s) (S := (slotV M s).set) subset_rfl) $$ H
  iintro H
  have hv : (M.access (slotR s)).read (Elt F) f = T := hf
  rw [hv]
  iapply Hk
  iexists f; isplitr; · (ipureintro; exact hf)
  iexact H

/-- a load of any slot held reads something. -/
theorem slot_peek {M : Buf4} {c : Dev nD} {s : Fin 4} {off : Fin 3 → Nat} {inb}
    (hoff : off = slotOff s) {hl} {α : Type} {k : Tile F → Prog (TpuEff nD τ sig (Elt F) Λ₀ .tc) α} {Q : α → sProp 𝕄} :
    (spare M c s : sProp 𝕄) ⊢ iprop((∀ T : Tile F, spare M c s -∗ WP c (k T) Q)
      -∗ WP c (.op (.load M (Rect.unit (s := S4x256x512) off S1x256x512.size inb).toLoadRect hl) k) Q) := by
  subst hoff
  unfold spare
  iintro ⟨%f, H⟩ Hk
  iapply (wp_load_rect 𝒱₀ (c : Thread nD τ) none Set.univ (m := M) (r := slotR s) (S := (slotV M s).set) subset_rfl) $$ H
  iintro H
  ispecialize Hk $$ %((slotV M s).read (Elt F) f)
  iapply Hk
  iexists f
  iexact H

/-- The slot a copy addresses, its leading axis of one dropped. -/
abbrev slotM (M : Buf4) {off : Fin 3 → Nat} (inb : ∀ a, off a + S1x256x512.size a ≤ S4x256x512.size a) :
    Memref sig .tc .vmem S256x512 .bf16 :=
  (M.slice (Rect.unit (s := S4x256x512) off S1x256x512.size inb) (fun _ => rfl)).squeeze S256x512 squeezes_S1x256x512_S256x512

/-- Copying one slot into another writes what the source slot reads. -/
theorem slot_copy (A B : Buf4) (s t : Fin 4) (fs : (slotV A s).ty.Contents (Elt F)) (fd : (slotV B t).ty.Contents (Elt F)) :
    (slotV B t).read (Elt F) ((slotM B (slot_inb t)).view.write (Elt F) fd ((slotM A (slot_inb s)).view.read (Elt F) fs) Finset.univ)
      = (slotV A s).read (Elt F) fs := by
  have h := View.read_write_univ (v := (slotM B (slot_inb t)).view) (Val := Elt F) fd ((slotM A (slot_inb s)).view.read (Elt F) fs)
  funext x
  have hx := congrFun h ((Shape.reshapeEquiv squeezes_S1x256x512_S256x512.numel_eq).symm x)
  have e : (Shape.reshapeEquiv squeezes_S1x256x512_S256x512.numel_eq) ((Shape.reshapeEquiv squeezes_S1x256x512_S256x512.numel_eq).symm x) = x :=
    Equiv.apply_symm_apply _ x
  rw [View.read_apply, View.read_apply] at hx
  rw [View.read_apply, View.read_apply]
  simp only [Memref.view_squeeze, View.emb_reshape, Function.Embedding.trans_apply, Equiv.coe_toEmbedding] at hx
  rw [e] at hx
  exact hx

/-! ## A buffer is its four slots -/

theorem slots_disjoint (M : Buf4) (s t : Fin 4) (h : s ≠ t) : Disjoint (slotV M s).set (slotV M t).set := by
  rw [View.set_slice, View.set_slice]
  refine (Finset.disjoint_map _).mpr (Rect.unit_disjoint (s := S4x256x512) (0 : Fin 3) ?_)
  have : s.val ≠ t.val := fun e => h (Fin.ext e)
  show s.val + 1 ≤ t.val ∨ t.val + 1 ≤ s.val
  omega

/-- The elements of slot `s`, as elements of the whole buffer. -/
abbrev slotSet (M : Buf4) (s : Fin 4) : Finset M.view.ty.Idx := (slotV M s).set

theorem slots_cover (M : Buf4) (hM : M.IsWhole) : Finset.univ.biUnion (slotSet M) = Finset.univ := by
  rw [← hM.set_eq_univ]
  ext i
  simp only [Finset.mem_biUnion, Finset.mem_univ, true_and]
  constructor
  · rintro ⟨s, hs⟩; exact View.set_slice_subset _ _ hs
  · intro hi
    obtain ⟨x, -, rfl⟩ := Finset.mem_map.mp hi
    refine ⟨(x (0 : Fin 3) : Fin 4), ?_⟩
    show M.view.emb x ∈ (M.view.slice (slotR (x (0 : Fin 3) : Fin 4))).set
    rw [View.set_slice]
    refine Finset.mem_map_of_mem _ (Rect.mem_set_unit.mpr fun a => ?_)
    have hx := (x a).isLt
    fin_cases a
    · exact ⟨le_rfl, Nat.lt_succ_self _⟩
    · exact ⟨Nat.zero_le _, by simpa using hx⟩
    · exact ⟨Nat.zero_le _, by simpa using hx⟩

/-- The whole buffer at some contents is its four slots, each at some contents, in any order of the slots; -/
theorem whole_slots (M : Buf4) (hM : M.IsWhole) (c : Dev nD) (l : List (Fin 4)) (hl : l.Nodup) (hl' : ∀ s, s ∈ l)
    (f : Buf (Elt F) (M.view.loc (c : Thread nD τ))) :
    (M.view.loc (c : Thread nD τ) ↦{fullShare} f : sProp 𝕄) ⊢ bigSepL l (fun s => spare M c s) := by
  rw [← bigSep_univ_eq_bigSepL l (by ext s; simp [hl' s]) hl,
    Ring.pointsTo_blocks (ℓ := M.view.loc (c : Thread nD τ)) (slotSet M) (slots_disjoint M) (slots_cover M hM) f]
  refine bigSep_mono fun s _ => ?_
  show _ ⊢ (spare M c s : sProp 𝕄)
  unfold spare
  exact Laws.exists_intro (Φ := fun f : Buf (Elt F) ((slotV M s).loc (c : Thread nD τ)) => ((slotV M s).loc (c : Thread nD τ) ↦[(slotV M s).set]{fullShare} f : sProp 𝕄)) f

/-- and the four slots are the whole buffer. -/
theorem slots_whole (M : Buf4) (hM : M.IsWhole) (c : Dev nD) (l : List (Fin 4)) (hl : l.Nodup) (hl' : ∀ s, s ∈ l)
    (f₀ : Buf (Elt F) (M.view.loc (c : Thread nD τ))) :
    bigSepL l (fun s => spare M c s) ⊢ (iprop(∃ f, M.view.loc (c : Thread nD τ) ↦{fullShare} f) : sProp 𝕄) := by
  rw [← bigSep_univ_eq_bigSepL l (by ext s; simp [hl' s]) hl]
  exact Ring.pointsTo_blocks_join_exists (ℓ := M.view.loc (c : Thread nD τ)) (slotSet M) (slots_disjoint M) (slots_cover M hM) f₀

end Cert.Swap

end
-- ==== Proof.Contents.lean ====
/-
What the buffers hold: the input in its staging buffer, the tile a device sends to each row of the mesh, and the result,
block of 256 rows by block of 256 rows.
-/
module

public import proofs.«01_k».proof.Proof.Slots

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev inM : Memref sig .tc .vmem S512x2048 .f32 := Memref.whole cc0_stg0_0
abbrev outM : Memref sig .tc .vmem S2048x512 .f32 := Memref.whole cc0_stg1_0

variable (m : (ℓ : Loc nD τ sig) → Buf (Elt F) ℓ)

/-- The block of the input that device `c` holds, as its staging buffer holds it. -/
def input (c : Dev nD) : (cc0_stg0_0 : Ref sig .tc).ty.Contents (Elt F) :=
  (win0_0.blk (0 : Fin 1)).view.read (Elt F) (m ((c : Thread nD τ).loc main_arg0))

theorem piece_inb (c : Dev nD) (j : Fin 4) : ∀ a, pieceOff c j a + S256x512.size a ≤ S512x2048.size a := by
  revert c j; decide +kernel

/-- The piece of its input that device `c` sends to row `j`. -/
def piece (c : Dev nD) (j : Fin 4) : Vec F S256x512 .f32 :=
  inM.view.readAt (Elt F) (Rect.unit (s := S512x2048) (pieceOff c j) S256x512.size (piece_inb c j)).toLoadRect (input m c)

/-- The same, as the tile that travels. -/
def tile (c : Dev nD) (j : Fin 4) : Tile F := k0_pay1 (piece m c j)

/-- Block `b` of 256 rows of the result on device `c`: rows of its own input when `b` lies in its own row block, otherwise
    the tile sent to its row by the device of that half in the row of `b`. -/
def blockVal (c : Dev nD) (b : Fin 8) : Vec F S256x512 .f32 :=
  if b.val / 2 = (row c).val then
    fun x => input m c (Shape.pair (d := ![512, 2048]) ⟨256 * (b.val % 2) + (x 0).val, by
        have := (x 0).isLt; have h : (x 0).val < 256 := this; show _ < 512; omega⟩
      ⟨512 * (row c).val + (x 1).val, by
        have := (x 1).isLt; have h : (x 1).val < 512 := this; have := (row c).isLt; show _ < 2048; omega⟩)
  else k0_pay6 (tile m (at_ c ⟨b.val % 2, Nat.mod_lt _ (by decide)⟩ ⟨b.val / 2, by have := b.isLt; omega⟩) (row c))

/-- The block of 256 rows in which a row of the result lies. -/
def blk (i : S2048x512.Idx) : Fin 8 := ⟨(i 0).val / 256, by
  have := (i 0).isLt; have h : (i 0).val < 2048 := this; omega⟩

/-- Its place in that block. -/
def inBlk (i : S2048x512.Idx) : S256x512.Idx :=
  Shape.pair (d := ![256, 512]) ⟨(i 0).val % 256, Nat.mod_lt _ (by decide)⟩ ⟨(i 1).val, (i 1).isLt⟩

/-- The result on device `c`. -/
def result (c : Dev nD) : (cc0_stg1_0 : Ref sig .tc).ty.Contents (Elt F) := fun i => blockVal m c (blk i) (inBlk i)

/-! ## The result being written -/

/-- Device `c`'s result buffer holds the result on the blocks of `B`. -/
def outSo (c : Dev nD) (B : Finset (Fin 8)) : sProp 𝕄 :=
  iprop(∃ f : Buf (Elt F) (outM.view.loc (c : Thread nD τ)), ⌜∀ i : S2048x512.Idx, blk i ∈ B → f i = result m c i⌝
    ∗ (outM.view.loc (c : Thread nD τ) ↦{fullShare} f))

/-- A load of the result buffer reads something. -/
theorem out_peek {c : Dev nD} {B : Finset (Fin 8)} {r : LoadRect S2048x512} {hl} {α : Type}
    {k : (r.shape.Idx → Elt F .f32) → Prog (TpuEff nD τ sig (Elt F) Λ₀ .tc) α} {Q : α → sProp 𝕄} :
    (outSo m c B : sProp 𝕄) ⊢ iprop((∀ v, outSo m c B -∗ WP c (k v) Q) -∗ WP c (.op (.load outM r hl) k) Q) := by
  unfold outSo
  iintro ⟨%f, %hf, H⟩ Hk
  iapply (wp_load 𝒱₀ (c : Thread nD τ) none Set.univ (m := outM) (S := Finset.univ) (Finset.subset_univ _)) $$ H
  iintro H
  ispecialize Hk $$ %(outM.view.readAt (Elt F) r f)
  iapply Hk
  iexists f
  isplitr; · (ipureintro; exact hf)
  iexact H

/-- A store of values of the result extends the blocks on which the buffer holds it to those the store covers. -/
theorem out_store {c : Dev nD} {B : Finset (Fin 8)} (B' : Finset (Fin 8)) {r : Rect S2048x512} {w : r.shape.Idx → Elt F .f32}
    (hw : ∀ x, w x = result m c (r.emb x)) (hB : ∀ i : S2048x512.Idx, i ∉ r.set → blk i ∈ B' → blk i ∈ B)
    {hx} {hm} {α : Type} {k : PUnit → Prog (TpuEff nD τ sig (Elt F) Λ₀ .tc) α} {Q : α → sProp 𝕄} :
    (outSo m c B : sProp 𝕄) ⊢ iprop((outSo m c B' -∗ WP c (k ⟨⟩) Q)
      -∗ WP c (.op (.store outM r w Finset.univ hx hm) k) Q) := by
  unfold outSo
  iintro ⟨%f, %hf, H⟩ Hk
  iapply (wp_store 𝒱₀ (c : Thread nD τ) none Set.univ (m := outM) (r := r) (Mk := Finset.univ) (S := Finset.univ) (Finset.subset_univ _)) $$ H
  iintro H
  iapply Hk
  iexists ((outM.access r).write (Elt F) f w Finset.univ)
  isplitr
  · ipureintro
    intro i hi
    by_cases h : i ∈ r.set
    · rw [← Rect.map_emb_univ] at h
      obtain ⟨x, -, rfl⟩ := Finset.mem_map.mp h
      have e := View.write_emb_of_mem (v := outM.access r) (Val := Elt F) f w (M := Finset.univ) (x := x) (Finset.mem_univ x)
      exact e.trans (hw x)
    · refine (View.write_of_not_mem f w Finset.univ (v := outM.access r) (i := i) ?_).trans (hf i (hB i h hi))
      rw [View.setOn_univ, View.set_slice_whole]; exact h
  iexact H

/-- A store of one block of 256 rows. -/
theorem out_store_block {c : Dev nD} {B : Finset (Fin 8)} (b : Fin 8) {off : Fin 2 → Nat} {inb} (hoff : off = blockOff b)
    {w : Vec F S256x512 .f32} (hw : w = blockVal m c b)
    {hx} {hm} {α : Type} {k : PUnit → Prog (TpuEff nD τ sig (Elt F) Λ₀ .tc) α} {Q : α → sProp 𝕄} :
    (outSo m c B : sProp 𝕄) ⊢ iprop((outSo m c (insert b B) -∗ WP c (k ⟨⟩) Q)
      -∗ WP c (.op (.store outM (Rect.unit (s := S2048x512) off S256x512.size inb) w Finset.univ hx hm) k) Q) := by
  subst hoff
  subst hw
  refine out_store m (insert b B) (fun x => ?_) (fun i hi hb => ?_)
  · have h0 : (x 0).val < 256 := (x 0).isLt
    have hb : blk ((Rect.unit (s := S2048x512) (blockOff b) S256x512.size inb).emb x) = b := by
      refine Fin.ext ?_
      show (256 * b.val + 1 * (x 0).val) / 256 = b.val
      omega
    have hx : inBlk ((Rect.unit (s := S2048x512) (blockOff b) S256x512.size inb).emb x) = x := by
      funext a
      refine Fin.ext ?_
      fin_cases a
      · show (256 * b.val + 1 * (x 0).val) % 256 = (x 0).val
        omega
      · show 0 + 1 * (x 1).val = (x 1).val
        omega
    unfold result
    rw [hb, hx]
  · rcases Finset.mem_insert.mp hb with h | h
    · exact absurd (Rect.mem_set_unit.mpr fun a => by
        have hv : (i 0).val / 256 = b.val := congrArg Fin.val h
        have h1 : (i 1).val < 512 := (i 1).isLt
        fin_cases a
        · show 256 * b.val ≤ (i 0).val ∧ (i 0).val < 256 * b.val + 256
          omega
        · show 0 ≤ (i 1).val ∧ (i 1).val < 0 + 512
          omega) hi
    · exact h

/-- The block of the result in the rows of another device's row of the mesh is the tile that row's device sent. -/
theorem blockVal_of (c d : Dev nD) (i : Fin 4) (h : Fin 2) (hi : i ≠ row c) (hd : at_ c h i = d) :
    k0_pay6 (tile m d (row c)) = blockVal m c (blockOf i h) := by
  have hh : h.val < 2 := h.isLt
  unfold blockVal
  rw [if_neg (fun e => hi (Fin.ext (by
    have e' : (2 * i.val + h.val) / 2 = (row c).val := e
    omega)))]
  have h1 : (⟨(blockOf i h).val % 2, Nat.mod_lt _ (by decide)⟩ : Fin 2) = h :=
    Fin.ext (show (2 * i.val + h.val) % 2 = h.val by omega)
  have h2 : (⟨(blockOf i h).val / 2, by have := (blockOf i h).isLt; omega⟩ : Fin 4) = i :=
    Fin.ext (show (2 * i.val + h.val) / 2 = i.val by omega)
  rw [h1, h2, hd]

/-- The kernel's own rows are copied as they are. -/
theorem pay5_id (v : Vec F S512x512 .f32) : k0_pay5 v = v := funext fun x => congrArg v (Shape.reshapeEquiv_self _ x)

/-- Device `c`'s own rows of the result are the columns of its row in its input. -/
theorem own_rows (c : Dev nD) {off : Fin 2 → Nat} {inb} (hoff : off = ![0, 512 * (row c).val]) {off' : Fin 2 → Nat} {inb'}
    (hoff' : off' = blockOff (blockOf (row c) 0)) (x : S512x512.Idx) :
    k0_pay5 (inM.view.readAt (Elt F) (Rect.unit (s := S512x2048) off S512x512.size inb).toLoadRect (input m c)) x
      = result m c ((Rect.unit (s := S2048x512) off' S512x512.size inb').emb x) := by
  subst hoff hoff'
  have h0 : (x 0).val < 512 := (x 0).isLt
  have h1 : (x 1).val < 512 := (x 1).isLt
  have hr := (row c).isLt
  have hb : (blk ((Rect.unit (s := S2048x512) (blockOff (blockOf (row c) 0)) S512x512.size inb').emb x)).val = 2 * (row c).val + (x 0).val / 256 := by
    show (256 * (2 * (row c).val + 0) + 1 * (x 0).val) / 256 = _
    omega
  refine (congrFun (pay5_id _) x).trans ?_
  unfold result blockVal
  rw [if_pos (by rw [hb]; omega)]
  show input m c _ = input m c _
  congr 1
  funext a
  refine Fin.ext ?_
  fin_cases a
  · show 0 + 1 * (x 0).val = 256 * ((blk _).val % 2) + (256 * (2 * (row c).val + 0) + 1 * (x 0).val) % 256
    rw [hb]
    omega
  · show 512 * (row c).val + 1 * (x 1).val = 512 * (row c).val + (0 + 1 * (x 1).val)
    omega

/-- The store of a device's own rows: two blocks of the result. -/
theorem own_store {c : Dev nD} {off : Fin 2 → Nat} {inb} (hoff : off = ![0, 512 * (row c).val]) {off' : Fin 2 → Nat} {inb'}
    (hoff' : off' = blockOff (blockOf (row c) 0))
    {hx} {hm} {α : Type} {k : PUnit → Prog (TpuEff nD τ sig (Elt F) Λ₀ .tc) α} {Q : α → sProp 𝕄} :
    (outSo m c ∅ : sProp 𝕄) ⊢ iprop((outSo m c {blockOf (row c) 0, blockOf (row c) 1} -∗ WP c (k ⟨⟩) Q)
      -∗ WP c (.op (.store outM (Rect.unit (s := S2048x512) off' S512x512.size inb')
        (k0_pay5 (inM.view.readAt (Elt F) (Rect.unit (s := S512x2048) off S512x512.size inb).toLoadRect (input m c))) Finset.univ hx hm) k) Q) := by
  refine out_store m _ (fun x => own_rows m c hoff hoff' x) (fun i hi hb => absurd ?_ hi)
  subst hoff'
  have hr := (row c).isLt
  have hv : 2 * (row c).val ≤ (i 0).val / 256 ∧ (i 0).val / 256 < 2 * (row c).val + 2 := by
    rcases Finset.mem_insert.mp hb with h | h
    · have e : (i 0).val / 256 = 2 * (row c).val + 0 := congrArg Fin.val h
      omega
    · have e : (i 0).val / 256 = 2 * (row c).val + 1 := congrArg Fin.val (Finset.mem_singleton.mp h)
      omega
  have h1 : (i 1).val < 512 := (i 1).isLt
  refine Rect.mem_set_unit.mpr fun a => ?_
  fin_cases a
  · show 256 * (2 * (row c).val + 0) ≤ (i 0).val ∧ (i 0).val < 256 * (2 * (row c).val + 0) + 512
    omega
  · show 0 ≤ (i 1).val ∧ (i 1).val < 0 + 512
    omega

/-! ## The input, and the tiles made of it -/

/-- Device `c`'s staging buffer holds its block of the input. -/
def inSo (c : Dev nD) : sProp 𝕄 := iprop(inM.view.loc (c : Thread nD τ) ↦{fullShare} input m c)

/-- A load of the input. -/
theorem in_load {c : Dev nD} {r : LoadRect S512x2048} {hl} {α : Type}
    {k : (r.shape.Idx → Elt F .f32) → Prog (TpuEff nD τ sig (Elt F) Λ₀ .tc) α} {Q : α → sProp 𝕄} :
    (inSo m c : sProp 𝕄) ⊢ iprop((inSo m c -∗ WP c (k (inM.view.readAt (Elt F) r (input m c))) Q) -∗ WP c (.op (.load inM r hl) k) Q) := by
  unfold inSo
  iintro H Hk
  iapply (wp_load 𝒱₀ (c : Thread nD τ) none Set.univ (m := inM) (S := Finset.univ) (Finset.subset_univ _)) $$ H
  iintro H
  iapply Hk
  iexact H

/-- One tile made: the piece of the input for row `j` read, converted, and stored in slot `j` of the send buffer. -/
theorem tile_made {c : Dev nD} (j : Fin 4) {off : Fin 2 → Nat} {inb} (hoff : off = pieceOff c j) {off' : Fin 3 → Nat} {inb'}
    (hoff' : off' = slotOff j) {hl} {hl'} {hx} {hm} {α : Type} {k : PUnit → Prog (TpuEff nD τ sig (Elt F) Λ₀ .tc) α} {Q : α → sProp 𝕄} :
    iprop(inSo m c ∗ spare sendM c j) ⊢ (iprop((inSo m c ∗ holds sendM c j fullShare (tile m c j) -∗ WP c (k ⟨⟩) Q)
      -∗ WP c (.op (.load inM (Rect.unit (s := S512x2048) off S256x512.size inb).toLoadRect hl) fun v =>
          .op (.load sendM (Rect.unit (s := S4x256x512) off' S1x256x512.size inb').toLoadRect hl') fun _ =>
          .op (.store sendM (Rect.unit (s := S4x256x512) off' S1x256x512.size inb') (k0_pay1 v) Finset.univ hx hm) k) Q) : sProp 𝕄) := by
  subst hoff
  iintro ⟨Hin, Hs⟩ Hk
  iapply (in_load m) $$ Hin; iintro Hin
  iapply (slot_peek hoff') $$ Hs; iintro %T Hs
  iapply (slot_store hoff' (tile m c j)) $$ Hs; iintro Hs
  iapply Hk
  isplitl [Hin] <;> iassumption

/-- The conversions of the kernel are two: the one its first tile is made by, and the one its first landed tile is read
    back by. -/
theorem pay2_eq : (k0_pay2 : Vec F S256x512 .f32 → _) = k0_pay1 := rfl
theorem pay3_eq : (k0_pay3 : Vec F S256x512 .f32 → _) = k0_pay1 := rfl
theorem pay4_eq : (k0_pay4 : Vec F S256x512 .f32 → _) = k0_pay1 := rfl
theorem pay7_eq : (k0_pay7 : Vec F S1x256x512 .bf16 → _) = k0_pay6 := rfl
theorem pay8_eq : (k0_pay8 : Vec F S1x256x512 .bf16 → _) = k0_pay6 := rfl
theorem pay9_eq : (k0_pay9 : Vec F S1x256x512 .bf16 → _) = k0_pay6 := rfl
theorem pay10_eq : (k0_pay10 : Vec F S1x256x512 .bf16 → _) = k0_pay6 := rfl
theorem pay11_eq : (k0_pay11 : Vec F S1x256x512 .bf16 → _) = k0_pay6 := rfl

/-- One landed tile written out: read from its slot, converted back, and stored as a block of the result. -/
theorem tile_out {M : Buf4} {c : Dev nD} {B : Finset (Fin 8)} (d : Dev nD) (i : Fin 4) (h : Fin 2) (hi : i ≠ row c) (hd : at_ c h i = d)
    {q : PosShare TreeShare} {off : Fin 2 → Nat} {inb} (hoff : off = blockOff (blockOf i h)) {off' : Fin 3 → Nat} {inb'}
    (hoff' : off' = slotOff i) {hl} {hl'} {hx} {hm} {α : Type} {k : PUnit → Prog (TpuEff nD τ sig (Elt F) Λ₀ .tc) α} {Q : α → sProp 𝕄} :
    iprop(holds M c i q (tile m d (row c)) ∗ outSo m c B)
      ⊢ (iprop((holds M c i q (tile m d (row c)) ∗ outSo m c (insert (blockOf i h) B) -∗ WP c (k ⟨⟩) Q)
      -∗ WP c (.op (.load M (Rect.unit (s := S4x256x512) off' S1x256x512.size inb').toLoadRect hl) fun v =>
          .op (.load outM (Rect.unit (s := S2048x512) off S256x512.size inb).toLoadRect hl') fun _ =>
          .op (.store outM (Rect.unit (s := S2048x512) off S256x512.size inb) (k0_pay6 v) Finset.univ hx hm) k) Q) : sProp 𝕄) := by
  iintro ⟨Hs, Ho⟩ Hk
  iapply (slot_load hoff') $$ Hs; iintro Hs
  iapply (out_peek m) $$ Ho; iintro %v Ho
  iapply (out_store_block m (blockOf i h) hoff (blockVal_of m c d i h hi hd)) $$ Ho; iintro Ho
  iapply Hk
  isplitl [Hs] <;> iassumption

end Cert.Swap

end
-- ==== Proof.Schedule.lean ====
/-
The agreement of the devices over their semaphores: what each cell hands to its owner, who pays it, what each device owes
at launch, and why no wait can wait for itself.
-/
module

public import proofs.«01_k».proof.Proof.Contents

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

/-- The four transfer semaphores of distance `k + 1`: `0` the tile left for the device ahead, `1` the tile landed from the
    device behind, `2` that tile left again for the mate, `3` the mate's forwarded tile landed. -/
def dq (a : Fin 4) (k : Fin 3) : DmaSem sig := ⟨2 + 3 * a.val + k.val, by
  have := a.isLt; have := k.isLt
  show _ < 14
  omega⟩

/-- The runtime's barrier semaphore. -/
abbrev barS : Sem sig := (SemArray.scalar (sig.barrier 0 rfl) : Sems sig S_).sem

/-- A device's cells: its barrier, and its twelve transfer semaphores. -/
abbrev Cell : Type := Unit ⊕ Fin 4 × Fin 3
abbrev csem : Cell → SemLoc sig
  | .inl _ => .reg barS
  | .inr (a, k) => .dma (dq a k)
abbrev bar (c : Dev nD) : GSem nD τ sig := ((c : Thread nD τ), .reg barS)
abbrev cell (a : Fin 4) (k : Fin 3) (c : Dev nD) : GSem nD τ sig := ((c : Thread nD τ), .dma (dq a k))
abbrev kcell (x : Dev nD × Cell) : GSem nD τ sig := ((x.1 : Thread nD τ), csem x.2)

theorem csem_injective : Function.Injective csem := by
  rintro (_ | ⟨a, k⟩) (_ | ⟨a', k'⟩) h
  · rfl
  · cases h
  · cases h
  · have h1 : dq a k = dq a' k' := by injection h
    have h2 : 2 + 3 * a.val + k.val = 2 + 3 * a'.val + k'.val := congrArg Fin.val h1
    have := k.isLt; have := k'.isLt
    rw [show a = a' from Fin.ext (by omega), show k = k' from Fin.ext (by omega)]

theorem kcell_injective : Function.Injective (kcell : Dev nD × Cell → GSem nD τ sig) := by
  rintro ⟨c, x⟩ ⟨c', x'⟩ h
  have h1 : c = c' := congrArg (fun g : GSem nD τ sig => g.1.1) h
  have h2 : x = x' := csem_injective (congrArg Prod.snd h)
  rw [h1, h2]

/-- The credit of one tile's transfer, whichever buffers it is between. -/
abbrev N : ℕ := (slotM gotM (slot_inb 0)).view.dmaCredit
theorem N_pos : 0 < N := View.dmaCredit_pos _ (by decide)

/-! ## What the cells hand over -/

variable (m : (ℓ : Loc nD τ sig) → Buf (Elt F) ℓ)

/-- What device `c`'s barrier hands it: from its mate (name `0`), three slots of the mate's landing buffer for forwarded
    tiles; from the device `k + 1` behind (name `k + 1`), the slot of that device's landing buffer that is `c`'s to fill. -/
def barPay (c : Dev nD) (d : Fin 4) : sProp 𝕄 :=
  Fin.cases (motive := fun _ => sProp 𝕄)
    iprop(spare fwdM (mate c) (row (behind 0 c)) ∗ spare fwdM (mate c) (row (behind 1 c)) ∗ spare fwdM (mate c) (row (behind 2 c)))
    (fun k => spare gotM (behind k c) (row c)) d

/-- What device `c`'s transfer semaphores hand it: the send buffer's slot back; the landed tile; the half share lent to
    forwarding it; the mate's forwarded tile. -/
def pay (c : Dev nD) (a : Fin 4) (k : Fin 3) : sProp 𝕄 :=
  match a with
  | 0 => holds sendM c (row (ahead k c)) fullShare (tile m c (row (ahead k c)))
  | 1 => holds gotM c (row (behind k c)) fullShare (tile m (behind k c) (row c))
  | 2 => holds gotM c (row (behind k c)) fullShare.left (tile m (behind k c) (row c))
  | 3 => holds fwdM c (row (behind k c)) fullShare (tile m (behind k (mate c)) (row c))

instance barPay_storable (c : Dev nD) (d : Fin 4) : BI.Storable (upEmb : UEmb _ 𝕄) (barPay (F := F) c d) := by
  revert d
  refine Fin.cases ?_ fun k => ?_
  · show BI.Storable (upEmb : UEmb _ 𝕄) iprop(spare fwdM (mate c) (row (behind 0 c)) ∗ spare fwdM (mate c) (row (behind 1 c)) ∗ spare fwdM (mate c) (row (behind 2 c)))
    infer_instance
  · show BI.Storable (upEmb : UEmb _ 𝕄) (spare gotM (behind k c) (row c))
    infer_instance
instance pay_storable (c : Dev nD) (a : Fin 4) (k : Fin 3) : BI.Storable (upEmb : UEmb _ 𝕄) (pay m c a k) := by
  unfold pay
  split <;> infer_instance

/-- One round: a barrier has four duties of one unit, a transfer semaphore one of a tile's credit. -/
def sched : Rounds.Schedule (GSem nD τ sig) (Fin 4) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay g.1.1 d
    | .dma q => pay m g.1.1 (Fin.ofNat 4 ((q.val - 2) / 3)) (Fin.ofNat 3 ((q.val - 2) % 3))
  amount_pos g _ _ _ := by
    split
    · exact Nat.one_pos
    · exact N_pos

instance sched_payload_storable (g : GSem nD τ sig) (r : ℕ) (d : Fin 4) :
    BI.Storable (upEmb : UEmb _ 𝕄) ((sched m).payload g r d) := by
  obtain ⟨t, _ | q⟩ := g
  · show BI.Storable (upEmb : UEmb _ 𝕄) (barPay t.1 d)
    infer_instance
  · show BI.Storable (upEmb : UEmb _ 𝕄) (pay m t.1 (Fin.ofNat 4 ((q.val - 2) / 3)) (Fin.ofNat 3 ((q.val - 2) % 3)))
    infer_instance

section Sched
variable (c : Dev nD) (a : Fin 4) (k : Fin 3)

theorem duties_bar : (sched m).duties (bar c) 0 = Finset.univ := rfl
theorem duties_cell : (sched m).duties (cell a k c) 0 = {0} := rfl
theorem duties_later (g : GSem nD τ sig) : ∀ r, 1 ≤ r → (sched m).duties g r = ∅ := fun r hr => if_neg (by omega)
theorem amount_bar (d : Fin 4) : (sched m).amount (bar c) 0 d = 1 := rfl
theorem amount_cell (d : Fin 4) : (sched m).amount (cell a k c) 0 d = N := rfl

theorem expect_bar : (sched m).expect (bar c) 0 = 4 := by
  unfold Schedule.expect Schedule.amountOf
  rw [duties_bar, Finset.sum_congr rfl fun d _ => amount_bar m c d, Finset.sum_const, Finset.card_univ, Fintype.card_fin, smul_eq_mul]
theorem expect_cell : (sched m).expect (cell a k c) 0 = N := by
  unfold Schedule.expect Schedule.amountOf
  rw [duties_cell, Finset.sum_singleton, amount_cell]

theorem payload_bar (d : Fin 4) : (sched m).payload (bar c) 0 d = barPay c d := rfl
theorem payload_cell (d : Fin 4) : (sched m).payload (cell a k c) 0 d = pay m c a k := by
  have h : Fin.ofNat 4 (((dq a k).val - 2) / 3) = a ∧ Fin.ofNat 3 (((dq a k).val - 2) % 3) = k := by revert a k; decide
  show pay m c (Fin.ofNat 4 (((dq a k).val - 2) / 3)) (Fin.ofNat 3 (((dq a k).val - 2) % 3)) = _
  rw [h.1, h.2]

/-- The rest of a barrier's round, nothing of it taken. -/
theorem rest_bar : bigSep ((sched m).duties (bar c) 0 \ ∅) (fun d => (sched m).payload (bar c) 0 d)
    = iprop(barPay c 0 ∗ barPay c 1 ∗ barPay c 2 ∗ barPay c 3) := by
  rw [Finset.sdiff_empty, duties_bar]
  exact bigSep_univ_eq_bigSepL [0, 1, 2, 3] (by decide) (by decide) _
/-- The rest of a transfer cell's round. -/
theorem rest_cell : bigSep ((sched m).duties (cell a k c) 0 \ ∅) (fun d => (sched m).payload (cell a k c) 0 d) = pay m c a k := by
  rw [Finset.sdiff_empty, duties_cell, bigSep_singleton, payload_cell]

end Sched

/-! ## What each device owes at launch -/

/-- Whom each payment goes to, last payment first: the three forwarded tiles to the mate, the three tiles to the devices
    ahead, the mate's barrier, the barriers of the devices ahead. -/
def payee : ℕ → (Dev nD ≃ Dev nD)
  | 0 | 1 | 2 => mateE
  | 3 => aheadE 2
  | 4 => aheadE 1
  | 5 => aheadE 0
  | 6 => mateE
  | 7 => aheadE 2
  | 8 => aheadE 1
  | _ => aheadE 0
/-- Which of the payee's cells it goes to. -/
def paid : ℕ → Cell
  | 0 => .inr (3, 2)
  | 1 => .inr (3, 1)
  | 2 => .inr (3, 0)
  | 3 => .inr (1, 2)
  | 4 => .inr (1, 1)
  | 5 => .inr (1, 0)
  | _ => .inl ()
/-- The amount of each payment. -/
def amt (j : ℕ) : ℕ := if j < 6 then N else 1

/-- What device `c` owes with `j` payments left. -/
def owed (c : Dev nD) : ℕ → CellTallies nD τ sig Unit
  | 0 => 0
  | j + 1 => owed c j + tallyAt (kcell (payee j c, paid j)) () (amt j)

/-- It owes something only to the cells of the payments left. -/
theorem owed_pos {c : Dev nD} {g : GSem nD τ sig} {u : Unit} : ∀ {n : ℕ}, 0 < owed c n g u → ∃ j < n, g = kcell (payee j c, paid j)
  | 0, h => absurd h (Nat.lt_irrefl 0)
  | n + 1, h => by
    by_cases hg : g = kcell (payee n c, paid n)
    · exact ⟨n, Nat.lt_succ_self n, hg⟩
    · have h' : 0 < owed c n g u := by
        have : owed c (n + 1) g u = owed c n g u + tallyAt (kcell (payee n c, paid n)) () (amt n) g u := rfl
        rw [this, tallyAt_apply, if_neg (fun e => hg e.1), Nat.add_zero] at h
        exact h
      obtain ⟨j, hj, e⟩ := owed_pos h'
      exact ⟨j, Nat.lt_succ_of_lt hj, e⟩

/-! ## Levels: no wait waits for itself -/

def L (g : GSem nD τ sig) : Finset Unit := if g.1.2 = .tc then {()} else ∅
/-- A transfer semaphore's level: landed tiles at 2, forwarded tiles at 3, what a device waits for after it has paid
    everything at 0. -/
def lvq (q : DmaSem sig) : ℕ := if 5 ≤ q.val ∧ q.val < 8 then 2 else if 11 ≤ q.val then 3 else 0
/-- The levels, barriers at 1. -/
def lv (g : GSem nD τ sig) (_ : Unit) : ℕ := match g.2 with | .reg _ => 1 | .dma q => lvq q

theorem L_of_ne (g : GSem nD τ sig) (h : g.1.2 ≠ .tc) : L g = ∅ := if_neg h
theorem L_tc (c : Dev nD) (sm : SemLoc sig) : L ((c : Thread nD τ), sm) = {()} := if_pos rfl

theorem lvq_forwarded (k : Fin 3) : lvq (dq 3 k) = 3 := by revert k; decide
theorem lvq_landed (k : Fin 3) : lvq (dq 1 k) = 2 := by revert k; decide

/-- The level of the cell of payment `j`. -/
theorem lv_paid (c : Dev nD) (j : ℕ) (u : Unit) : lv (kcell (payee j c, paid j)) u = if j < 3 then 3 else if j < 6 then 2 else 1 := by
  rcases j with _ | _ | _ | _ | _ | _ | j
  · exact lvq_forwarded 2
  · exact lvq_forwarded 1
  · exact lvq_forwarded 0
  · exact lvq_landed 2
  · exact lvq_landed 1
  · exact lvq_landed 0
  · rw [if_neg (by omega), if_neg (by omega)]
    rfl

/-- A device may wait on a cell below all it still owes: `b` bounds the cell's level, and with `n` payments left everything
    owed is above `b`. -/
theorem mayWait (c : Dev nD) (sm : SemLoc sig) (n b : ℕ) (hsm : lv ((c : Thread nD τ), sm) () ≤ b)
    (hn : ∀ j < n, b < if j < 3 then 3 else if j < 6 then 2 else 1) :
    (levAts L lv : sProp 𝕄) ⊢ MayWait (c : Thread nD τ) sm () (owed c n) :=
  MayOwe.of_cut (L := L) (lev := lv) b
    (fun p hp => by rw [Finset.mem_singleton.mp hp, L_tc]; exact Finset.mem_singleton_self _)
    (fun g u hg => by obtain ⟨j, -, rfl⟩ := owed_pos hg; rw [L_tc]; exact Finset.mem_singleton_self _)
    (fun p hp => by rw [Finset.mem_singleton.mp hp]; exact hsm)
    (fun g u hg => by obtain ⟨j, hj, rfl⟩ := owed_pos hg; rw [lv_paid]; exact hn j hj)

end Cert.Swap

end
-- ==== Proof.Steps.lean ====
/-
The steps of the kernel that touch semaphores, each stated once for every distance and every buffer: a signal to a
barrier, the barrier wait, a transfer, the wait for a transfer.
-/
module

public import proofs.«01_k».proof.Proof.Schedule

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- Every cell of every device follows the agreement, and its round `0` is reached. -/
def records : sProp 𝕄 :=
  iprop((bigSep Finset.univ fun x : Dev nD × Cell => cellInv ER (sched m) (K x) (kcell x))
    ∗ bigSep Finset.univ fun x : Dev nD × Cell => reached ER (kcell x) 0)

instance records_persistent : BI.Persistent (records m K) := by unfold records; infer_instance

theorem inv_of (x : Dev nD × Cell) : records m K ⊢ cellInv ER (sched m) (K x) (kcell x) :=
  (BI.sep_and.trans and_elimL).trans (bigSep_elim (Finset.mem_univ x))
theorem reached_of (x : Dev nD × Cell) : records m K ⊢ reached ER (kcell x) 0 :=
  (BI.sep_and.trans and_elimR).trans (bigSep_elim (Finset.mem_univ x))

/-- Device `c` still owes `O`. -/
def Owes (c : Dev nD) (O : CellTallies nD τ sig Unit) : sProp 𝕄 := iprop(∃ W : Waits sig Unit, owes (c : Thread nD τ) O W)

/-- A signal to a device's barrier: the duty's token and payload are handed over, and one unit less is owed. -/
theorem signal_step {c : Dev nD} (d n : Dev nD) (hn : n = d) (i : Fin 4) {O₀ : CellTallies nD τ sig Unit} (O : CellTallies nD τ sig Unit)
    (hO : O₀ = O + tallyAt (bar d) () 1) {k' : ℕ} (hk : 1 = k') {α : Type} {k : PUnit → Prog (TpuEff nD τ sig (Elt F) Λ₀ .tc) α} {Q : α → sProp 𝕄} :
    iprop(records m K ∗ Owes c O₀ ∗ dutyTok ER (bar d) 0 i ∗ barPay d i)
      ⊢ (iprop((Owes c O -∗ WP c (k ⟨⟩) Q) -∗ WP c (.op (.semSignal (n, .tc) barS k') k) Q) : sProp 𝕄) := by
  subst hn hk hO
  unfold Owes
  iintro ⟨#HR, ⟨%W, HO⟩, Ht, Hp⟩ Hk
  iapply (Rounds.wp_signal 𝒱₀ ER (sched m) (c : Thread nD τ) none (dst := (n : Thread nD τ)) (sem := barS) (κ := K (n, .inl ()))
      (d := i) (by rw [duties_bar]; exact Finset.mem_univ _) (amount_bar m n i) () O rfl) $$ [HO Ht Hp]
  · isplitr; · iapply (inv_of m K (n, .inl ())); iexact HR
    isplitl [HO]; · iexact HO
    isplitl [Ht]; · iexact Ht
    isplitl [Hp]; · rw [payload_bar]; iexact Hp
    iapply (reached_of m K (n, .inl ())); iexact HR
  iintro HO
  iapply Hk
  iexists W; iexact HO

/-- The barrier wait: all four payloads, and the barrier's counter at zero. -/
theorem barrier_step {c : Dev nD} (O : CellTallies nD τ sig Unit)
    {k' : ℕ} (hk : 4 = k') {α : Type} {k : PUnit → Prog (TpuEff nD τ sig (Elt F) Λ₀ .tc) α} {Q : α → sProp 𝕄} :
    iprop(records m K ∗ cred (tallyAt (bar c) () 4) ∗ Owes c O ∗ MayWait (c : Thread nD τ) (.reg barS) () O ∗ atPos ER (bar c) 0 ∅ 0)
      ⊢ (iprop(((Owes c O ∗ semVal (bar c) 0 ∗ barPay c 0 ∗ barPay c 1 ∗ barPay c 2 ∗ barPay c 3) -∗ WP c (k ⟨⟩) Q)
        -∗ WP c (.op (.semWait barS k') k) Q) : sProp 𝕄) := by
  subst hk
  unfold Owes
  iintro ⟨#HR, Hc, ⟨%W, HO⟩, Hm, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := O) (W := W) (R := 0) (m := 0) (T := ∅)
      (by rw [expect_bar])) $$ [Hc HO Hm Hat]
  · isplitr; · iapply (inv_of m K (c, .inl ())); iexact HR
    isplitl [Hc]; · iexact Hc
    isplitl [HO]; · iexact HO
    isplitl [Hm]; · iexact Hm
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (bar c))) $$ [Hat] with Hz
  · isplitr; · iapply (inv_of m K (c, .inl ())); iexact HR
    iexact Hat
  iapply Hk
  isplitl [HO]; · iexists _; iexact HO
  isplitl [Hz]; · iexact Hz
  iexact Hp

/-- Every transfer of a tile is of the same credit. -/
theorem credit_eq (M : Memref sig .tc .vmem S256x512 .bf16) : M.view.dmaCredit = N := rfl

/-- The wait for a transfer: its payload, and the semaphore's counter at zero. -/
theorem wait_step {c : Dev nD} (a : Fin 4) (j : Fin 3) {q : DmaSem sig} (hq : q = dq a j) (O : CellTallies nD τ sig Unit)
    {src dst : Memref sig .tc .vmem S256x512 .bf16} {hsrc : src.view.WordExact} {hdst : dst.view.WordExact}
    {α : Type} {k : PUnit → Prog (TpuEff nD τ sig (Elt F) Λ₀ .tc) α} {Q : α → sProp 𝕄} :
    iprop(records m K ∗ cred (tallyAt (cell a j c) () N) ∗ Owes c O ∗ MayWait (c : Thread nD τ) (.dma (dq a j)) () O ∗ atPos ER (cell a j c) 0 ∅ 0)
      ⊢ (iprop(((Owes c O ∗ semVal (cell a j c) 0 ∗ pay m c a j) -∗ WP c (k ⟨⟩) Q)
        -∗ WP c (.op (.waitDma2 q src dst hsrc hdst) k) Q) : sProp 𝕄) := by
  subst hq
  unfold Owes
  iintro ⟨#HR, Hc, ⟨%W, HO⟩, Hm, Hat⟩ Hk
  iapply (Rounds.wp_wait_rest_token 𝒱₀ ER (sched m) (c : Thread nD τ) none (κ := K (c, .inr (a, j)))
      (wpE_waitDma2_eq 𝒱₀ (c : Thread nD τ) none Set.univ) (Set.mem_univ _) () (O := O) (W := W) (R := 0) (m := 0) (T := ∅)
      (by rw [Nat.zero_add, expect_cell, credit_eq])) $$ [Hc HO Hm Hat]
  · isplitr; · iapply (inv_of m K (c, .inr (a, j))); iexact HR
    isplitl [Hc]; · rw [credit_eq]; iexact Hc
    isplitl [HO]; · iexact HO
    isplitl [Hm]; · iexact Hm
    iexact Hat
  iintro ⟨HO, Hat, -, Hpay⟩
  ihave Hp := (Entails.of_eq (rest_cell m c a j)) $$ Hpay
  imod (Rounds.cell_close ER (sched m) (Set.mem_univ (K (c, .inr (a, j)))) (fun h => h) (R := 0 + 1) (duties_later m (cell a j c))) $$ [Hat] with Hz
  · isplitr; · iapply (inv_of m K (c, .inr (a, j))); iexact HR
    iexact Hat
  iapply Hk
  isplitl [HO]; · iexists _; iexact HO
  isplitl [Hz]; · iexact Hz
  iexact Hp

/-- The same once everything owed is paid. -/
theorem last_wait_step {c : Dev nD} (a : Fin 4) (j : Fin 3) {q : DmaSem sig} (hq : q = dq a j)
    {src dst : Memref sig .tc .vmem S256x512 .bf16} {hsrc : src.view.WordExact} {hdst : dst.view.WordExact}
    {α : Type} {k : PUnit → Prog (TpuEff nD τ sig (Elt F) Λ₀ .tc) α} {Q : α → sProp 𝕄} :
    iprop(records m K ∗ cred (tallyAt (cell a j c) () N) ∗ Owes c 0 ∗ atPos ER (cell a j c) 0 ∅ 0)
      ⊢ (iprop(((Owes c 0 ∗ semVal (cell a j c) 0 ∗ pay m c a j) -∗ WP c (k ⟨⟩) Q)
        -∗ WP c (.op (.waitDma2 q src dst hsrc hdst) k) Q) : sProp 𝕄) := by
  iintro ⟨#HR, Hc, HO, Hat⟩ Hk
  iapply (wait_step m K a j hq 0) $$ [Hc HO Hat] Hk
  isplitr; · iexact HR
  isplitl [Hc]; · iexact Hc
  isplitl [HO]; · iexact HO
  isplitr; · rw [MayWait_zero]; iempintro
  iexact Hat

/-- A transfer of a slot to another device's buffer, over the slots' elements. -/
theorem send_raw {c : Dev nD} (d : Dev nD) (A B : Buf4) (s t : Fin 4) (a a' : Fin 4) (j : Fin 3)
    {q : PosShare TreeShare} (T : Tile F) (hp₁ : pay m c a j = holds A c s q T) (hp₂ : pay m d a' j = holds B d t fullShare T)
    (O : CellTallies nD τ sig Unit) (W : Waits sig Unit)
    {hsc : (slotM B (slot_inb t) : Memref sig (Dev.tc d : Thread nD τ).2.kind .vmem S256x512 .bf16).view.ref.isScScratch = false}
    {hsrc : (slotM A (slot_inb s)).view.WordExact} {hdst : (slotM B (slot_inb t)).view.WordExact}
    {hsem : DmaTarget.Typed .vmem (.dma (dq a' j)) (.remote (Dev.tc d : Thread nD τ) (slotM B (slot_inb t)) (.dma (dq a j)) hsc)}
    {α : Type} {k : PUnit → Prog (TpuEff nD τ sig (Elt F) Λ₀ .tc) α} {Q : α → sProp 𝕄}
    (fs : Buf (Elt F) ((slotM A (slot_inb s)).view.loc (c : Thread nD τ))) (hfs : (slotV A s).read (Elt F) fs = T)
    (fd : Buf (Elt F) ((slotM B (slot_inb t)).view.loc (d : Thread nD τ))) :
    iprop(cellInv ER (sched m) (K (c, .inr (a, j))) (cell a j c) ∗ cellInv ER (sched m) (K (d, .inr (a', j))) (cell a' j d)
        ∗ ((slotM A (slot_inb s)).view.loc (c : Thread nD τ) ↦[(slotM A (slot_inb s)).view.set]{q} fs)
        ∗ ((slotM B (slot_inb t)).view.loc (d : Thread nD τ) ↦[(slotM B (slot_inb t)).view.set]{fullShare} fd)
        ∗ owes (c : Thread nD τ) (O + tallyAt (cell a' j d) () N) W
        ∗ dutyTok ER (cell a j c) 0 0 ∗ reached ER (cell a j c) 0
        ∗ dutyTok ER (cell a' j d) 0 0 ∗ reached ER (cell a' j d) 0)
      ⊢ (iprop(((cred (tallyAt (cell a j c) () N) ∗ owes (c : Thread nD τ) O W) -∗ WP c (k ⟨⟩) Q)
        -∗ WP c (.op (.enqueueDma (slotM A (slot_inb s)) (.remote (Dev.tc d : Thread nD τ) (slotM B (slot_inb t)) (.dma (dq a j)) hsc)
            (.dma (dq a' j)) hsrc hdst hsem) k) Q) : sProp 𝕄) := by
  have hA : (slotM A (slot_inb s)).view.set = (slotV A s).set := View.set_reshape _ _
  have hB : (slotM B (slot_inb t)).view.set = (slotV B t).set := View.set_reshape _ _
  exact Rounds.wp_send_pointsTo 𝒱₀ ER (sched m) (c : Thread nD τ) none (κ₁ := K (c, .inr (a, j))) (κ₂ := K (d, .inr (a', j)))
    (sS := .dma (dq a j)) (sem := .dma (dq a' j)) (r₁ := 0) (r₂ := 0) (d₁ := 0) (d₂ := 0) (fs := fs) (fd := fd)
    (by rw [duties_cell]; exact Finset.mem_singleton_self _) (by rw [duties_cell]; exact Finset.mem_singleton_self _)
    () () N (credit_eq _) (amount_cell m c a j 0) (amount_cell m d a' j 0) O rfl (W := W)
    (by
      rw [payload_cell, hp₁, hA]
      unfold holds
      iintro H
      iexists fs
      isplitr; · (ipureintro; exact hfs)
      iexact H)
    (by
      rw [payload_cell, hp₂, hB]
      unfold holds
      iintro H
      iexists ((slotM B (slot_inb t)).view.write (Elt F) fd ((slotM A (slot_inb s)).view.read (Elt F) fs) Finset.univ)
      isplitr; · (ipureintro; exact (slot_copy A B s t fs fd).trans hfs)
      iexact H)

/-- A transfer of a slot to another device's buffer: the source share and the target slot are handed over until the two
    semaphores say otherwise, the source's credit comes back, and the target's is no longer owed. -/
theorem send_step {c : Dev nD} (d n : Dev nD) (hn : n = d) (A B : Buf4) (s t : Fin 4) (a a' : Fin 4) (j : Fin 3)
    {q₁ q₂ : DmaSem sig} (hq₁ : q₁ = dq a j) (hq₂ : q₂ = dq a' j)
    {off₁ off₂ : Fin 3 → Nat} {inb₁ : ∀ x, off₁ x + S1x256x512.size x ≤ S4x256x512.size x}
    {inb₂ : ∀ x, off₂ x + S1x256x512.size x ≤ S4x256x512.size x} (hoff₁ : off₁ = slotOff s) (hoff₂ : off₂ = slotOff t)
    {q : PosShare TreeShare} (T : Tile F) (hp₁ : pay m c a j = holds A c s q T) (hp₂ : pay m d a' j = holds B d t fullShare T)
    {O₀ : CellTallies nD τ sig Unit} (O : CellTallies nD τ sig Unit) (hO : O₀ = O + tallyAt (cell a' j d) () N)
    {hsc : (slotM B inb₂ : Memref sig (Dev.tc n : Thread nD τ).2.kind .vmem S256x512 .bf16).view.ref.isScScratch = false}
    {hsrc : (slotM A inb₁).view.WordExact} {hdst : (slotM B inb₂).view.WordExact}
    {hsem : DmaTarget.Typed .vmem (.dma q₂) (.remote (Dev.tc n : Thread nD τ) (slotM B inb₂) (.dma q₁) hsc)}
    {α : Type} {k : PUnit → Prog (TpuEff nD τ sig (Elt F) Λ₀ .tc) α} {Q : α → sProp 𝕄} :
    iprop(records m K ∗ holds A c s q T ∗ spare B d t ∗ Owes c O₀
        ∗ dutyTok ER (cell a j c) 0 0 ∗ dutyTok ER (cell a' j d) 0 0)
      ⊢ (iprop(((cred (tallyAt (cell a j c) () N) ∗ Owes c O) -∗ WP c (k ⟨⟩) Q)
        -∗ WP c (.op (.enqueueDma (slotM A inb₁) (.remote (Dev.tc n : Thread nD τ) (slotM B inb₂) (.dma q₁) hsc) (.dma q₂) hsrc hdst hsem) k) Q) : sProp 𝕄) := by
  subst hn hq₁ hq₂ hoff₁ hoff₂ hO
  have hA : (slotM A inb₁).view.set = (slotV A s).set := View.set_reshape _ _
  have hB : (slotM B inb₂).view.set = (slotV B t).set := View.set_reshape _ _
  iintro ⟨#HR, HA, HB, HO, Ht₁, Ht₂⟩ Hk
  unfold Owes
  icases HO with ⟨%W, HO⟩
  ihave HA' := (show holds A c s q T ⊢ (iprop(∃ f : Buf (Elt F) ((slotV A s).loc (c : Thread nD τ)), ⌜(slotV A s).read (Elt F) f = T⌝
    ∗ ((slotM A inb₁).view.loc (c : Thread nD τ) ↦[(slotM A inb₁).view.set]{q} f)) : sProp 𝕄) from by rw [hA]; exact .rfl) $$ HA
  icases HA' with ⟨%fs, %hfs, HA⟩
  ihave HB' := (show spare B n t ⊢ (iprop(∃ f : Buf (Elt F) ((slotV B t).loc (n : Thread nD τ)),
    ((slotM B inb₂).view.loc (n : Thread nD τ) ↦[(slotM B inb₂).view.set]{fullShare} f)) : sProp 𝕄) from by rw [hB]; exact .rfl) $$ HB
  icases HB' with ⟨%fd, HB⟩
  iapply (send_raw m K n A B s t a a' j T hp₁ hp₂ O W fs hfs fd) $$ [HA HB HO Ht₁ Ht₂]
  · isplitr; · iapply (inv_of m K (c, .inr (a, j))); iexact HR
    isplitr; · iapply (inv_of m K (n, .inr (a', j))); iexact HR
    isplitl [HA]; · iexact HA
    isplitl [HB]; · iexact HB
    isplitl [HO]; · iexact HO
    isplitl [Ht₁]; · iexact Ht₁
    isplitr; · iapply (reached_of m K (c, .inr (a, j))); iexact HR
    isplitl [Ht₂]; · iexact Ht₂
    iapply (reached_of m K (n, .inr (a', j))); iexact HR
  iintro ⟨Hc, HO⟩
  iapply Hk
  isplitl [Hc]; · iexact Hc
  iexists W; iexact HO

end Cert.Swap

end
-- ==== Proof.Body.lean ====
/-
The kernel on one device, run from the ghost state the launch gives it to the result written and every semaphore back at
zero.
-/
module

public import proofs.«01_k».proof.Proof.Steps

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## What a device starts from -/

/-- The duties of a device's cells. -/
abbrev Tok : Type := Fin 4 ⊕ Fin 4 × Fin 3
/-- The cell and the name of each. -/
abbrev tokOf (x : Dev nD × Tok) : GSem nD τ sig × ℕ × Fin 4 := match x.2 with
  | .inl d => (bar x.1, 0, d)
  | .inr (a, k) => (cell a k x.1, 0, 0)
/-- The token of a duty. -/
abbrev tok (j : Tok) (c : Dev nD) : sProp 𝕄 := dutyTok ER (tokOf (c, j)).1 (tokOf (c, j)).2.1 (tokOf (c, j)).2.2
/-- Whose duty `j` device `c` pays. -/
def payeeOf : Tok → (Dev nD ≃ Dev nD)
  | .inl d => Fin.cases (motive := fun _ => Dev nD ≃ Dev nD) mateE (fun k => aheadE k) d
  | .inr (0, _) => Equiv.refl _
  | .inr (1, k) => aheadE k
  | .inr (2, _) => Equiv.refl _
  | .inr (3, _) => mateE
/-- The tokens of the duties device `c` pays. -/
def payToks (c : Dev nD) : sProp 𝕄 := bigSep Finset.univ fun j : Tok => tok j (payeeOf j c)
/-- Its positions at the start of its own cells' rounds. -/
def positions (c : Dev nD) : sProp 𝕄 := bigSep Finset.univ fun x : Cell => atPos ER (kcell (c, x)) 0 ∅ 0
/-- Its own cells, closed, their counters at zero. -/
def zeros (c : Dev nD) : sProp 𝕄 := bigSep Finset.univ fun x : Cell => semVal (kcell (c, x)) 0
/-- What is due to a cell from other devices. -/
def due : Cell → ℕ
  | .inl _ => 4
  | .inr (0, _) => 0
  | .inr (1, _) => N
  | .inr (2, _) => 0
  | .inr (3, _) => N
/-- Its credit for that. -/
def creds (c : Dev nD) : sProp 𝕄 := bigSep Finset.univ fun x : Cell => cred (tallyAt (kcell (c, x)) () (due x))

/-- A device's cells, and the duties of its cells, in a list. -/
def cellList : List Cell := [.inl (), .inr (0, 0), .inr (0, 1), .inr (0, 2), .inr (1, 0), .inr (1, 1), .inr (1, 2),
    .inr (2, 0), .inr (2, 1), .inr (2, 2), .inr (3, 0), .inr (3, 1), .inr (3, 2)]
def tokList : List Tok := [.inl 0, .inl 1, .inl 2, .inl 3, .inr (0, 0), .inr (0, 1), .inr (0, 2), .inr (1, 0), .inr (1, 1), .inr (1, 2),
    .inr (2, 0), .inr (2, 1), .inr (2, 2), .inr (3, 0), .inr (3, 1), .inr (3, 2)]

theorem bigSep_cells (Φ : Cell → sProp 𝕄) : bigSep Finset.univ Φ = iprop(Φ (.inl ()) ∗ Φ (.inr (0, 0)) ∗ Φ (.inr (0, 1)) ∗ Φ (.inr (0, 2))
    ∗ Φ (.inr (1, 0)) ∗ Φ (.inr (1, 1)) ∗ Φ (.inr (1, 2)) ∗ Φ (.inr (2, 0)) ∗ Φ (.inr (2, 1)) ∗ Φ (.inr (2, 2))
    ∗ Φ (.inr (3, 0)) ∗ Φ (.inr (3, 1)) ∗ Φ (.inr (3, 2))) := by
  rw [bigSep_univ_eq_bigSepL cellList (by decide) (by decide) Φ]; rfl

theorem bigSep_toks (Φ : Tok → sProp 𝕄) : bigSep Finset.univ Φ = iprop(Φ (.inl 0) ∗ Φ (.inl 1) ∗ Φ (.inl 2) ∗ Φ (.inl 3)
    ∗ Φ (.inr (0, 0)) ∗ Φ (.inr (0, 1)) ∗ Φ (.inr (0, 2)) ∗ Φ (.inr (1, 0)) ∗ Φ (.inr (1, 1)) ∗ Φ (.inr (1, 2))
    ∗ Φ (.inr (2, 0)) ∗ Φ (.inr (2, 1)) ∗ Φ (.inr (2, 2)) ∗ Φ (.inr (3, 0)) ∗ Φ (.inr (3, 1)) ∗ Φ (.inr (3, 2))) := by
  rw [bigSep_univ_eq_bigSepL tokList (by decide) (by decide) Φ]; rfl

theorem payToks_list (c : Dev nD) : (payToks c : sProp 𝕄) = iprop(dutyTok ER (bar (mate c)) 0 0
    ∗ dutyTok ER (bar (ahead 0 c)) 0 1 ∗ dutyTok ER (bar (ahead 1 c)) 0 2 ∗ dutyTok ER (bar (ahead 2 c)) 0 3
    ∗ dutyTok ER (cell 0 0 c) 0 0 ∗ dutyTok ER (cell 0 1 c) 0 0 ∗ dutyTok ER (cell 0 2 c) 0 0
    ∗ dutyTok ER (cell 1 0 (ahead 0 c)) 0 0 ∗ dutyTok ER (cell 1 1 (ahead 1 c)) 0 0 ∗ dutyTok ER (cell 1 2 (ahead 2 c)) 0 0
    ∗ dutyTok ER (cell 2 0 c) 0 0 ∗ dutyTok ER (cell 2 1 c) 0 0 ∗ dutyTok ER (cell 2 2 c) 0 0
    ∗ dutyTok ER (cell 3 0 (mate c)) 0 0 ∗ dutyTok ER (cell 3 1 (mate c)) 0 0 ∗ dutyTok ER (cell 3 2 (mate c)) 0 0) := by
  unfold payToks
  rw [bigSep_toks]
  rfl

/-- A buffer's four slots at some contents, in the order of a list of rows. -/
def slots (M : Buf4) (c : Dev nD) (l : List (Fin 4)) : sProp 𝕄 := bigSepL l fun s => spare M c s

/-- The four tiles made, in any order of the rows. -/
theorem tiles_reorder (c : Dev nD) (l : List (Fin 4)) (hl : l.Nodup) (hl' : ∀ s, s ∈ l) :
    bigSepL [0, 1, 2, 3] (fun s : Fin 4 => (holds sendM c s fullShare (tile m c s) : sProp 𝕄))
      = bigSepL l (fun s => holds sendM c s fullShare (tile m c s)) := by
  rw [← bigSep_univ_eq_bigSepL l (by ext s; simp [hl' s]) hl, ← bigSep_univ_eq_bigSepL [0, 1, 2, 3] (by decide) (by decide)]

/-- What the kernel starts from on device `c`, apart from the agreement itself. -/
def before (c : Dev nD) : sProp 𝕄 :=
  iprop(positions c ∗ payToks c ∗ creds c ∗ levAts L lv
    ∗ slots sendM c [0, 1, 2, 3] ∗ slots gotM c [row c, row (ahead 0 c), row (ahead 1 c), row (ahead 2 c)]
    ∗ slots fwdM c [row c, row (behind 0 c), row (behind 1 c), row (behind 2 c)]
    ∗ Owes c (owed c 10) ∗ inSo m c ∗ outSo m c ∅)

/-- What it ends with: nothing owed, the result written, its cells closed, its buffers back. -/
def after (c : Dev nD) : sProp 𝕄 :=
  iprop(zeros c
    ∗ slots sendM c [row c, row (ahead 0 c), row (ahead 1 c), row (ahead 2 c)]
    ∗ slots gotM c [row c, row (behind 0 c), row (behind 1 c), row (behind 2 c)]
    ∗ slots fwdM c [row c, row (behind 0 c), row (behind 1 c), row (behind 2 c)]
    ∗ Owes c 0 ∗ inSo m c ∗ outSo m c Finset.univ)

/-- What a device's own transfer semaphores hand it: the sent slot back, the landed tile, the half lent to forwarding it,
    the mate's forwarded tile. -/
theorem pay_sent (k : Fin 3) (c : Dev nD) : pay m c 0 k ⊢ holds sendM c (row (ahead k c)) fullShare (tile m c (row (ahead k c))) := .rfl
theorem pay_got (k : Fin 3) (c : Dev nD) : pay m c 1 k ⊢ holds gotM c (row (behind k c)) fullShare (tile m (behind k c) (row c)) := .rfl
theorem pay_lent (k : Fin 3) (c : Dev nD) : pay m c 2 k ⊢ holds gotM c (row (behind k c)) fullShare.left (tile m (behind k c) (row c)) := .rfl
theorem pay_crossed (k : Fin 3) (c : Dev nD) : pay m c 3 k ⊢ holds fwdM c (row (behind k c)) fullShare (tile m (behind k (mate c)) (row c)) := .rfl

/-- The payload of a tile's transfer to the device `k + 1` ahead; -/
theorem pay_landed (k : Fin 3) (c : Dev nD) :
    pay m (ahead k c) 1 k = holds gotM (ahead k c) (row c) fullShare (tile m c (row (ahead k c))) := by
  unfold pay; rw [behind_ahead]
/-- of its forwarding to the mate. -/
theorem pay_forwarded (k : Fin 3) (c : Dev nD) :
    pay m (mate c) 3 k = holds fwdM (mate c) (row (behind k c)) fullShare (tile m (behind k c) (row c)) := by
  unfold pay; rw [row_behind_mate, mate_mate, row_mate]
/-- What a device hands to the barrier of the device `k + 1` ahead; -/
theorem hand_ahead (k : Fin 3) (c : Dev nD) : (barPay (ahead k c) k.succ : sProp 𝕄) = spare gotM c (row (ahead k c)) := by
  show spare gotM (behind k (ahead k c)) (row (ahead k c)) = _
  rw [behind_ahead]
/-- to its mate's; -/
theorem hand_mate (c : Dev nD) : (barPay (mate c) 0 : sProp 𝕄)
    = iprop(spare fwdM c (row (behind 0 c)) ∗ spare fwdM c (row (behind 1 c)) ∗ spare fwdM c (row (behind 2 c))) := by
  show iprop(spare fwdM (mate (mate c)) (row (behind 0 (mate c))) ∗ spare fwdM (mate (mate c)) (row (behind 1 (mate c)))
    ∗ spare fwdM (mate (mate c)) (row (behind 2 (mate c)))) = _
  rw [mate_mate, row_behind_mate, row_behind_mate, row_behind_mate]
/-- what it is handed by the device `k + 1` ahead, which is as well so many behind. -/
theorem handed (k : Fin 3) (c : Dev nD) : (barPay c k.rev.succ : sProp 𝕄) = spare gotM (ahead k c) (row c) := by
  show spare gotM (behind k.rev c) (row c) = _
  rw [behind_rev]

/-- A program that has returned satisfies whatever holds of its result. -/
theorem finished (c : Dev nD) (Q : PUnit → sProp 𝕄) : Q ⟨⟩ ⊢ WP c (.ret ⟨⟩) Q := by
  show Q ⟨⟩ ⊢ iprop(|={Set.univ}=> Q ⟨⟩)
  iintro H
  imodintro
  iexact H

set_option maxHeartbeats 4000000 in
/-- The kernel on device `c`, one step at a time in program order. -/
theorem body_run (c : Dev nD) (Kt : PUnit → sProp 𝕄) :
    iprop(records m K ∗ before m c ∗ (after m c -∗ Kt ⟨⟩))
      ⊢ WP c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton]
  unfold k0_part1_skel k0_part2_skel k0_part3_skel k0_part4_skel k0_part5_skel k0_part6_skel k0_part7_skel k0_part8_skel
    k0_part9_skel k0_part10_skel k0_part11_skel k0_part12_skel k0_part13_skel
  simp only [semSignalWord, semWaitWord, Prog.lift, Prog.bind_op, Prog.bind_ret, Prog.pure_eq_ret, wp_deviceId,
    pay2_eq, pay3_eq, pay4_eq, pay7_eq, pay8_eq, pay9_eq, pay10_eq, pay11_eq]
  unfold before after positions creds zeros
  rw [bigSep_cells, bigSep_cells, bigSep_cells, payToks_list]
  iintro ⟨#HR, ⟨⟨Pb, Py0, Py1, Py2, Pr0, Pr1, Pr2, Pf0, Pf1, Pf2, Pg0, Pg1, Pg2⟩,
    ⟨Tb, Tb0, Tb1, Tb2, Ty0, Ty1, Ty2, Tr0, Tr1, Tr2, Tf0, Tf1, Tf2, Tg0, Tg1, Tg2⟩,
    ⟨Cb, -, -, -, Cr0, Cr1, Cr2, -, -, -, Cg0, Cg1, Cg2⟩, #Hlev, Hsend, Hgot, Hfwd, HO, Hin, Hout⟩, Hk⟩
  ihave Hsend := (show slots sendM c [0, 1, 2, 3] ⊢ (iprop(spare sendM c 0 ∗ spare sendM c 1 ∗ spare sendM c 2 ∗ spare sendM c 3) : sProp 𝕄) from .rfl) $$ Hsend
  icases Hsend with ⟨S0, S1, S2, S3⟩
  ihave Hgot := (show slots gotM c [row c, row (ahead 0 c), row (ahead 1 c), row (ahead 2 c)]
    ⊢ (iprop(spare gotM c (row c) ∗ spare gotM c (row (ahead 0 c)) ∗ spare gotM c (row (ahead 1 c)) ∗ spare gotM c (row (ahead 2 c))) : sProp 𝕄) from .rfl) $$ Hgot
  icases Hgot with ⟨G, G0, G1, G2⟩
  ihave Hfwd := (show slots fwdM c [row c, row (behind 0 c), row (behind 1 c), row (behind 2 c)]
    ⊢ (iprop(spare fwdM c (row c) ∗ spare fwdM c (row (behind 0 c)) ∗ spare fwdM c (row (behind 1 c)) ∗ spare fwdM c (row (behind 2 c))) : sProp 𝕄) from .rfl) $$ Hfwd
  icases Hfwd with ⟨W, W0, W1, W2⟩
  -- the four tiles
  iapply (tile_made m 0 (off1_eq c) rfl) $$ [Hin S0]
  · isplitl [Hin] <;> iassumption
  iintro ⟨Hin, S0⟩
  iapply (tile_made m 1 (off2_eq c) rfl) $$ [Hin S1]
  · isplitl [Hin] <;> iassumption
  iintro ⟨Hin, S1⟩
  iapply (tile_made m 2 (off3_eq c) rfl) $$ [Hin S2]
  · isplitl [Hin] <;> iassumption
  iintro ⟨Hin, S2⟩
  iapply (tile_made m 3 (off4_eq c) rfl) $$ [Hin S3]
  · isplitl [Hin] <;> iassumption
  iintro ⟨Hin, S3⟩
  -- the four signals: a slot of the landing buffer to each device ahead, three of the forwarding buffer to the mate
  iapply (signal_step m K (ahead 0 c) _ (dev1_eq c) 1 (owed c 9) rfl (by decide)) $$ [HO Tb0 G0]
  · isplitr; · iexact HR
    isplitl [HO]; · iexact HO
    isplitl [Tb0]; · iexact Tb0
    iapply (Entails.of_eq (hand_ahead 0 c).symm); iexact G0
  iintro HO
  iapply (signal_step m K (ahead 1 c) _ (dev2_eq c) 2 (owed c 8) rfl (by decide)) $$ [HO Tb1 G1]
  · isplitr; · iexact HR
    isplitl [HO]; · iexact HO
    isplitl [Tb1]; · iexact Tb1
    iapply (Entails.of_eq (hand_ahead 1 c).symm); iexact G1
  iintro HO
  iapply (signal_step m K (ahead 2 c) _ (dev3_eq c) 3 (owed c 7) rfl (by decide)) $$ [HO Tb2 G2]
  · isplitr; · iexact HR
    isplitl [HO]; · iexact HO
    isplitl [Tb2]; · iexact Tb2
    iapply (Entails.of_eq (hand_ahead 2 c).symm); iexact G2
  iintro HO
  iapply (signal_step m K (mate c) _ (dev4_eq c) 0 (owed c 6) rfl (by decide)) $$ [HO Tb W0 W1 W2]
  · isplitr; · iexact HR
    isplitl [HO]; · iexact HO
    isplitl [Tb]; · iexact Tb
    iapply (Entails.of_eq (hand_mate c).symm)
    isplitl [W0]; · iexact W0
    isplitl [W1] <;> iassumption
  iintro HO
  -- the barrier wait
  iapply (barrier_step m K (owed c 6) (by decide)) $$ [Cb HO Pb]
  · isplitr; · iexact HR
    isplitl [Cb]; · iexact Cb
    isplitl [HO]; · iexact HO
    isplitr; · iapply (mayWait c (.reg barS) 6 1 le_rfl (by decide)); iexact Hlev
    iexact Pb
  iintro ⟨HO, Zb, Hm, G2, G1, G0⟩
  ihave Hm := (show barPay c 0 ⊢ (iprop(spare fwdM (mate c) (row (behind 0 c)) ∗ spare fwdM (mate c) (row (behind 1 c))
    ∗ spare fwdM (mate c) (row (behind 2 c))) : sProp 𝕄) from .rfl) $$ Hm
  icases Hm with ⟨W0, W1, W2⟩
  -- the device's own rows
  iapply (in_load m) $$ Hin; iintro Hin
  iapply (out_peek m) $$ Hout; iintro %v Hout
  iapply (own_store m (off5_eq c) (off6_eq c)) $$ Hout; iintro Hout
  -- the three tiles to the devices ahead
  ihave Hs := (show iprop(holds sendM c 0 fullShare (tile m c 0) ∗ holds sendM c 1 fullShare (tile m c 1) ∗ holds sendM c 2 fullShare (tile m c 2)
      ∗ holds sendM c 3 fullShare (tile m c 3)) ⊢ (iprop(holds sendM c (row c) fullShare (tile m c (row c))
      ∗ holds sendM c (row (ahead 0 c)) fullShare (tile m c (row (ahead 0 c))) ∗ holds sendM c (row (ahead 1 c)) fullShare (tile m c (row (ahead 1 c)))
      ∗ holds sendM c (row (ahead 2 c)) fullShare (tile m c (row (ahead 2 c)))) : sProp 𝕄) from
      Entails.of_eq (tiles_reorder m c _ (rows_ahead c).1 (rows_ahead c).2)) $$ [S0 S1 S2 S3]
  · isplitl [S0]; · iexact S0
    isplitl [S1]; · iexact S1
    isplitl [S2] <;> iassumption
  icases Hs with ⟨S, S0, S1, S2⟩
  iapply (send_step m K (ahead 0 c) _ (dev5_eq c) sendM gotM (row (ahead 0 c)) (row c) 0 1 0 rfl rfl (off8_eq 0 c) (off7_eq c)
    (tile m c (row (ahead 0 c))) rfl (pay_landed m 0 c) (owed c 5) rfl) $$ [S0 G0 HO Ty0 Tr0]
  · isplitr; · iexact HR
    isplitl [S0]; · iexact S0
    isplitl [G0]; · iapply (Entails.of_eq (handed 0 c)); iexact G0
    isplitl [HO]; · iexact HO
    isplitl [Ty0] <;> iassumption
  iintro ⟨Cy0, HO⟩
  iapply (send_step m K (ahead 1 c) _ (dev6_eq c) sendM gotM (row (ahead 1 c)) (row c) 0 1 1 rfl rfl (off8_eq 1 c) (off7_eq c)
    (tile m c (row (ahead 1 c))) rfl (pay_landed m 1 c) (owed c 4) rfl) $$ [S1 G1 HO Ty1 Tr1]
  · isplitr; · iexact HR
    isplitl [S1]; · iexact S1
    isplitl [G1]; · iapply (Entails.of_eq (handed 1 c)); iexact G1
    isplitl [HO]; · iexact HO
    isplitl [Ty1] <;> iassumption
  iintro ⟨Cy1, HO⟩
  iapply (send_step m K (ahead 2 c) _ (dev7_eq c) sendM gotM (row (ahead 2 c)) (row c) 0 1 2 rfl rfl (off8_eq 2 c) (off7_eq c)
    (tile m c (row (ahead 2 c))) rfl (pay_landed m 2 c) (owed c 3) rfl) $$ [S2 G2 HO Ty2 Tr2]
  · isplitr; · iexact HR
    isplitl [S2]; · iexact S2
    isplitl [G2]; · iapply (Entails.of_eq (handed 2 c)); iexact G2
    isplitl [HO]; · iexact HO
    isplitl [Ty2] <;> iassumption
  iintro ⟨Cy2, HO⟩
  -- distance 1: the landed tile, forwarded at half share and written out at the other half
  iapply (wait_step m K 1 0 rfl (owed c 3)) $$ [Cr0 HO Pr0]
  · isplitr; · iexact HR
    isplitl [Cr0]; · iexact Cr0
    isplitl [HO]; · iexact HO
    isplitr; · iapply (mayWait c (.dma (dq 1 0)) 3 2 (lvq_landed 0).le (by decide)); iexact Hlev
    iexact Pr0
  iintro ⟨HO, Zr0, G0⟩
  ihave G0 := ((pay_got m 0 c).trans <| holds_halve gotM c (row (behind 0 c)) (tile m (behind 0 c) (row c))) $$ G0
  icases G0 with ⟨Gl0, Gr0⟩
  iapply (send_step m K (mate c) _ (dev8_eq c) gotM fwdM (row (behind 0 c)) (row (behind 0 c)) 2 3 0 rfl rfl (off9_eq 0 c) (off9_eq 0 c)
    (tile m (behind 0 c) (row c)) rfl (pay_forwarded m 0 c) (owed c 2) rfl) $$ [Gl0 W0 HO Tf0 Tg0]
  · isplitr; · iexact HR
    isplitl [Gl0]; · iexact Gl0
    isplitl [W0]; · iexact W0
    isplitl [HO]; · iexact HO
    isplitl [Tf0] <;> iassumption
  iintro ⟨Cf0, HO⟩
  iapply (tile_out m (behind 0 c) (row (behind 0 c)) (half c) (row_behind_ne 0 c) (at_behind 0 c) (off11_eq 0 c) (off10_eq 0 c)) $$ [Gr0 Hout]
  · isplitl [Gr0] <;> iassumption
  iintro ⟨Gr0, Hout⟩
  -- distance 2: the landed tile, forwarded at half share and written out at the other half
  iapply (wait_step m K 1 1 rfl (owed c 2)) $$ [Cr1 HO Pr1]
  · isplitr; · iexact HR
    isplitl [Cr1]; · iexact Cr1
    isplitl [HO]; · iexact HO
    isplitr; · iapply (mayWait c (.dma (dq 1 1)) 2 2 (lvq_landed 1).le (by decide)); iexact Hlev
    iexact Pr1
  iintro ⟨HO, Zr1, G1⟩
  ihave G1 := ((pay_got m 1 c).trans <| holds_halve gotM c (row (behind 1 c)) (tile m (behind 1 c) (row c))) $$ G1
  icases G1 with ⟨Gl1, Gr1⟩
  iapply (send_step m K (mate c) _ (dev9_eq c) gotM fwdM (row (behind 1 c)) (row (behind 1 c)) 2 3 1 rfl rfl (off9_eq 1 c) (off9_eq 1 c)
    (tile m (behind 1 c) (row c)) rfl (pay_forwarded m 1 c) (owed c 1) rfl) $$ [Gl1 W1 HO Tf1 Tg1]
  · isplitr; · iexact HR
    isplitl [Gl1]; · iexact Gl1
    isplitl [W1]; · iexact W1
    isplitl [HO]; · iexact HO
    isplitl [Tf1] <;> iassumption
  iintro ⟨Cf1, HO⟩
  iapply (tile_out m (behind 1 c) (row (behind 1 c)) (half c) (row_behind_ne 1 c) (at_behind 1 c) (off11_eq 1 c) (off10_eq 1 c)) $$ [Gr1 Hout]
  · isplitl [Gr1] <;> iassumption
  iintro ⟨Gr1, Hout⟩
  -- distance 3: the landed tile, forwarded at half share and written out at the other half
  iapply (wait_step m K 1 2 rfl (owed c 1)) $$ [Cr2 HO Pr2]
  · isplitr; · iexact HR
    isplitl [Cr2]; · iexact Cr2
    isplitl [HO]; · iexact HO
    isplitr; · iapply (mayWait c (.dma (dq 1 2)) 1 2 (lvq_landed 2).le (by decide)); iexact Hlev
    iexact Pr2
  iintro ⟨HO, Zr2, G2⟩
  ihave G2 := ((pay_got m 2 c).trans <| holds_halve gotM c (row (behind 2 c)) (tile m (behind 2 c) (row c))) $$ G2
  icases G2 with ⟨Gl2, Gr2⟩
  iapply (send_step m K (mate c) _ (dev10_eq c) gotM fwdM (row (behind 2 c)) (row (behind 2 c)) 2 3 2 rfl rfl (off9_eq 2 c) (off9_eq 2 c)
    (tile m (behind 2 c) (row c)) rfl (pay_forwarded m 2 c) (owed c 0) rfl) $$ [Gl2 W2 HO Tf2 Tg2]
  · isplitr; · iexact HR
    isplitl [Gl2]; · iexact Gl2
    isplitl [W2]; · iexact W2
    isplitl [HO]; · iexact HO
    isplitl [Tf2] <;> iassumption
  iintro ⟨Cf2, HO⟩
  iapply (tile_out m (behind 2 c) (row (behind 2 c)) (half c) (row_behind_ne 2 c) (at_behind 2 c) (off11_eq 2 c) (off10_eq 2 c)) $$ [Gr2 Hout]
  · isplitl [Gr2] <;> iassumption
  iintro ⟨Gr2, Hout⟩
  ihave HO := (show Owes c (owed c 0) ⊢ (Owes c 0 : sProp 𝕄) from .rfl) $$ HO
  -- distance 1: the mate's forwarded tile, written out
  iapply (last_wait_step m K 3 0 rfl) $$ [Cg0 HO Pg0]
  · isplitr; · iexact HR
    isplitl [Cg0]; · iexact Cg0
    isplitl [HO] <;> iassumption
  iintro ⟨HO, Zg0, W0⟩
  ihave W0 := (pay_crossed m 0 c) $$ W0
  iapply (tile_out m (behind 0 (mate c)) (row (behind 0 c)) (half (mate c)) (row_behind_ne 0 c) (at_behind_mate 0 c) (off12_eq 0 c) (off10_eq 0 c)) $$ [W0 Hout]
  · isplitl [W0] <;> iassumption
  iintro ⟨W0, Hout⟩
  -- distance 2: the mate's forwarded tile, written out
  iapply (last_wait_step m K 3 1 rfl) $$ [Cg1 HO Pg1]
  · isplitr; · iexact HR
    isplitl [Cg1]; · iexact Cg1
    isplitl [HO] <;> iassumption
  iintro ⟨HO, Zg1, W1⟩
  ihave W1 := (pay_crossed m 1 c) $$ W1
  iapply (tile_out m (behind 1 (mate c)) (row (behind 1 c)) (half (mate c)) (row_behind_ne 1 c) (at_behind_mate 1 c) (off12_eq 1 c) (off10_eq 1 c)) $$ [W1 Hout]
  · isplitl [W1] <;> iassumption
  iintro ⟨W1, Hout⟩
  -- distance 3: the mate's forwarded tile, written out
  iapply (last_wait_step m K 3 2 rfl) $$ [Cg2 HO Pg2]
  · isplitr; · iexact HR
    isplitl [Cg2]; · iexact Cg2
    isplitl [HO] <;> iassumption
  iintro ⟨HO, Zg2, W2⟩
  ihave W2 := (pay_crossed m 2 c) $$ W2
  iapply (tile_out m (behind 2 (mate c)) (row (behind 2 c)) (half (mate c)) (row_behind_ne 2 c) (at_behind_mate 2 c) (off12_eq 2 c) (off10_eq 2 c)) $$ [W2 Hout]
  · isplitl [W2] <;> iassumption
  iintro ⟨W2, Hout⟩
  iapply (last_wait_step m K 0 0 rfl) $$ [Cy0 HO Py0]
  · isplitr; · iexact HR
    isplitl [Cy0]; · iexact Cy0
    isplitl [HO] <;> iassumption
  iintro ⟨HO, Zy0, S0⟩
  ihave S0 := (pay_sent m 0 c) $$ S0
  iapply (last_wait_step m K 0 1 rfl) $$ [Cy1 HO Py1]
  · isplitr; · iexact HR
    isplitl [Cy1]; · iexact Cy1
    isplitl [HO] <;> iassumption
  iintro ⟨HO, Zy1, S1⟩
  ihave S1 := (pay_sent m 1 c) $$ S1
  iapply (last_wait_step m K 0 2 rfl) $$ [Cy2 HO Py2]
  · isplitr; · iexact HR
    isplitl [Cy2]; · iexact Cy2
    isplitl [HO] <;> iassumption
  iintro ⟨HO, Zy2, S2⟩
  ihave S2 := (pay_sent m 2 c) $$ S2
  iapply (last_wait_step m K 2 0 rfl) $$ [Cf0 HO Pf0]
  · isplitr; · iexact HR
    isplitl [Cf0]; · iexact Cf0
    isplitl [HO] <;> iassumption
  iintro ⟨HO, Zf0, Gl0⟩
  ihave Gl0 := (pay_lent m 0 c) $$ Gl0
  iapply (last_wait_step m K 2 1 rfl) $$ [Cf1 HO Pf1]
  · isplitr; · iexact HR
    isplitl [Cf1]; · iexact Cf1
    isplitl [HO] <;> iassumption
  iintro ⟨HO, Zf1, Gl1⟩
  ihave Gl1 := (pay_lent m 1 c) $$ Gl1
  iapply (last_wait_step m K 2 2 rfl) $$ [Cf2 HO Pf2]
  · isplitr; · iexact HR
    isplitl [Cf2]; · iexact Cf2
    isplitl [HO] <;> iassumption
  iintro ⟨HO, Zf2, Gl2⟩
  ihave Gl2 := (pay_lent m 2 c) $$ Gl2
  iapply (finished c Kt)
  iapply Hk
  rw [blocks_all c]
  isplitl [Zb Zy0 Zy1 Zy2 Zr0 Zr1 Zr2 Zf0 Zf1 Zf2 Zg0 Zg1 Zg2]
  · isplitl [Zb]; · iexact Zb
    isplitl [Zy0]; · iexact Zy0
    isplitl [Zy1]; · iexact Zy1
    isplitl [Zy2]; · iexact Zy2
    isplitl [Zr0]; · iexact Zr0
    isplitl [Zr1]; · iexact Zr1
    isplitl [Zr2]; · iexact Zr2
    isplitl [Zf0]; · iexact Zf0
    isplitl [Zf1]; · iexact Zf1
    isplitl [Zf2]; · iexact Zf2
    isplitl [Zg0]; · iexact Zg0
    isplitl [Zg1]; · iexact Zg1
    iexact Zg2
  isplitl [S S0 S1 S2]
  · iapply (show iprop(spare sendM c (row c) ∗ spare sendM c (row (ahead 0 c)) ∗ spare sendM c (row (ahead 1 c)) ∗ spare sendM c (row (ahead 2 c)))
      ⊢ (slots sendM c [row c, row (ahead 0 c), row (ahead 1 c), row (ahead 2 c)] : sProp 𝕄) from .rfl)
    isplitl [S]; · iapply (holds_spare sendM c (row c) (tile m c (row c))); iexact S
    isplitl [S0]; · iapply (holds_spare sendM c (row (ahead 0 c)) (tile m c (row (ahead 0 c)))); iexact S0
    isplitl [S1]; · iapply (holds_spare sendM c (row (ahead 1 c)) (tile m c (row (ahead 1 c)))); iexact S1
    iapply (holds_spare sendM c (row (ahead 2 c)) (tile m c (row (ahead 2 c)))); iexact S2
  isplitl [G Gl0 Gr0 Gl1 Gr1 Gl2 Gr2]
  · iapply (show iprop(spare gotM c (row c) ∗ spare gotM c (row (behind 0 c)) ∗ spare gotM c (row (behind 1 c)) ∗ spare gotM c (row (behind 2 c)))
      ⊢ (slots gotM c [row c, row (behind 0 c), row (behind 1 c), row (behind 2 c)] : sProp 𝕄) from .rfl)
    isplitl [G]; · iexact G
    isplitl [Gl0 Gr0]
    · iapply (halves_spare gotM c (row (behind 0 c)) (tile m (behind 0 c) (row c)) (tile m (behind 0 c) (row c)))
      isplitl [Gl0] <;> iassumption
    isplitl [Gl1 Gr1]
    · iapply (halves_spare gotM c (row (behind 1 c)) (tile m (behind 1 c) (row c)) (tile m (behind 1 c) (row c)))
      isplitl [Gl1] <;> iassumption
    · iapply (halves_spare gotM c (row (behind 2 c)) (tile m (behind 2 c) (row c)) (tile m (behind 2 c) (row c)))
      isplitl [Gl2] <;> iassumption
  isplitl [W W0 W1 W2]
  · iapply (show iprop(spare fwdM c (row c) ∗ spare fwdM c (row (behind 0 c)) ∗ spare fwdM c (row (behind 1 c)) ∗ spare fwdM c (row (behind 2 c)))
      ⊢ (slots fwdM c [row c, row (behind 0 c), row (behind 1 c), row (behind 2 c)] : sProp 𝕄) from .rfl)
    isplitl [W]; · iexact W
    isplitl [W0]; · iapply (holds_spare fwdM c (row (behind 0 c)) (tile m (behind 0 (mate c)) (row c))); iexact W0
    isplitl [W1]; · iapply (holds_spare fwdM c (row (behind 1 c)) (tile m (behind 1 (mate c)) (row c))); iexact W1
    iapply (holds_spare fwdM c (row (behind 2 c)) (tile m (behind 2 (mate c)) (row c))); iexact W2
  isplitl [HO]; · iexact HO
  isplitl [Hin] <;> iassumption

end Cert.Swap

end
-- ==== Proof.Deal.lean ====
/-
How the launch's ghost state and its credit reach the devices: every cell's invariant allocated at once, every duty's token
given to the device that pays it, every credit to the device that waits.
-/
module

public import proofs.«01_k».proof.Proof.Body

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

/-- The kernel's own semaphores: the twelve of its transfers. -/
abbrev osem : Fin 4 × Fin 3 → SemLoc sig := fun x => .dma (dq x.1 x.2)

theorem ownSemFacts : Pipeline.OwnSemFacts cfg0.spec osem := by decide

theorem tokOf_injective : Function.Injective tokOf := by
  rintro ⟨c, j⟩ ⟨c', j'⟩ h
  have key : ∀ (x x' : Dev nD × Cell) (d d' : Fin 4), ((kcell x, 0, d) : GSem nD τ sig × ℕ × Fin 4) = (kcell x', 0, d') → x = x' ∧ d = d' :=
    fun x x' d d' e => ⟨kcell_injective (congrArg Prod.fst e), congrArg (fun y : GSem nD τ sig × ℕ × Fin 4 => y.2.2) e⟩
  rcases j with d | ⟨a, k⟩ <;> rcases j' with d' | ⟨a', k'⟩
  · obtain ⟨e, rfl⟩ := key (c, .inl ()) (c', .inl ()) d d' h
    injection e with e _
    rw [e]
  · obtain ⟨e, -⟩ := key (c, .inl ()) (c', .inr (a', k')) d 0 h
    injection e with _ e
    cases e
  · obtain ⟨e, -⟩ := key (c, .inr (a, k)) (c', .inl ()) 0 d' h
    injection e with _ e
    cases e
  · obtain ⟨e, -⟩ := key (c, .inr (a, k)) (c', .inr (a', k')) 0 0 h
    injection e with e e'
    injection e' with e'
    rw [e, e']

/-- Every device's cells, and every duty of theirs. -/
def allCells : Finset (GSem nD τ sig) := Finset.univ.map ⟨kcell, kcell_injective⟩
def allToks : Finset (GSem nD τ sig × ℕ × Fin 4) := Finset.univ.map ⟨tokOf, tokOf_injective⟩

/-- A family over the cells, device by device. -/
theorem bigSep_allCells (Φ : GSem nD τ sig → sProp 𝕄) :
    bigSep allCells Φ = bigSep Finset.univ fun c : Dev nD => bigSep Finset.univ fun x : Cell => Φ (kcell (c, x)) := by
  unfold allCells
  rw [bigSep_map, bigSep_univ_prod]
  rfl

/-- Over devices and then duties, or duties and then devices. -/
theorem bigSep_exchange (Φ : Dev nD → Tok → sProp 𝕄) :
    (bigSep Finset.univ fun c => bigSep Finset.univ fun j => Φ c j) = bigSep Finset.univ fun j => bigSep Finset.univ fun c => Φ c j := by
  rw [← bigSep_univ_prod fun y : Dev nD × Tok => Φ y.1 y.2, bigSep_univ_equiv (Equiv.prodComm Tok (Dev nD)), bigSep_univ_prod]
  rfl

/-- The tokens minted for the cells' duties, given to the devices that pay them. -/
theorem toks_dealt : bigSep allToks (fun x => (dutyTok ER x.1 x.2.1 x.2.2 : sProp 𝕄)) = bigSep Finset.univ fun c : Dev nD => payToks c := by
  unfold allToks payToks
  rw [bigSep_map, bigSep_univ_prod]
  refine (bigSep_exchange fun c j => (tok j c : sProp 𝕄)).trans ?_
  rw [bigSep_exchange fun c j => (tok j (payeeOf j c) : sProp 𝕄)]
  exact bigSep_congr fun j _ => bigSep_univ_equiv (payeeOf j) fun c => (tok j c : sProp 𝕄)

/-- What the launch's ghost state gives device `c`: its cells' states and positions, its cells marked as reached, and
    the tokens it pays with. -/
def dealt (c : Dev nD) : sProp 𝕄 :=
  iprop((bigSep Finset.univ fun x : Cell => roundState ER (sched m) (kcell (c, x)) 0) ∗ positions c
    ∗ (bigSep Finset.univ fun x : Cell => reached ER (kcell (c, x)) 0) ∗ payToks c)

theorem fund_swap : BI.own (ER (initOf allCells allToks)) ⊢ (|==> bigSep Finset.univ (dealt m) : sProp 𝕄) := by
  iintro HX
  imod (Rounds.fund ER (sched m) allCells allToks) $$ HX with ⟨Hst, Hr, Hat, Htok⟩
  imodintro
  ihave Hst := (Entails.of_eq (bigSep_allCells fun g => roundState ER (sched m) g 0)) $$ Hst
  ihave Hat := (Entails.of_eq (bigSep_allCells (F := F) fun g => atPos ER g 0 ∅ 0)) $$ Hat
  ihave Hr := (Entails.of_eq (bigSep_allCells (F := F) fun g => reached ER g 0)) $$ Hr
  ihave Htok := (Entails.of_eq (toks_dealt (F := F))) $$ Htok
  unfold dealt positions
  simp only [bigSep_sep']
  isplitl [Hst]; · iexact Hst
  isplitl [Hat]; · iexact Hat
  isplitl [Hr] <;> iassumption

/-! ## The cells allocated -/

/-- A device's cells at zero: the barrier, which outlives the launch, and the kernel's own twelve. -/
theorem zeros_eq (c : Dev nD) : (zeros c : sProp 𝕄) = iprop(unscopedSems0 c
    ∗ Pipeline.ownSems0 (Ix := Unit) (Name := ℕ) (U := UU) (Lvl := ℕ) (Val := Elt F) (τ := τ) osem c) := by
  unfold zeros unscopedSems0 Pipeline.ownSems0
  rw [bigSep_eq_bigSepL_of_eq [SemLoc.reg barS] (by decide) (by decide)]
  refine (BI.bigSep_univ_sum _).trans ?_
  rw [bigSep_univ_eq_bigSepL [()] (by decide) (by decide)]
  rfl

/-- A device's cells allocated: each at some name. -/
theorem cells_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun x : Cell => iprop(∃ κ : ℕ, cellInv ER (sched m) κ (kcell (c, x))))
          ∗ (bigSep Finset.univ fun x : Cell => reached ER (kcell (c, x)) 0) ∗ positions c ∗ payToks c) := by
  unfold dealt
  iintro ⟨Hos, Hus, Hst, Hat, Hr, Htok⟩
  ihave Hv := (Entails.of_eq (zeros_eq (F := F) c).symm) $$ [Hos Hus]
  · isplitl [Hus] <;> iassumption
  imod (show iprop(zeros c ∗ bigSep Finset.univ fun x : Cell => roundState ER (sched m) (kcell (c, x)) 0)
      ⊢ (|={Set.univ}=> bigSep Finset.univ fun x : Cell => iprop(∃ κ : ℕ, cellInv ER (sched m) κ (kcell (c, x))) : sProp 𝕄) from by
        unfold zeros
        rw [← bigSep_sep']
        exact (bigSep_mono fun x _ => (Rounds.body_intro ER (sched m) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- What device `c` starts from: the agreement at some names, its positions, the tokens it pays with. -/
def granted (c : Dev nD) : sProp 𝕄 := iprop((∃ K, records m K) ∗ positions c ∗ payToks c)

theorem agreed :
    (bigSep Finset.univ fun c : Dev nD => iprop((bigSep Finset.univ fun x : Cell => iprop(∃ κ : ℕ, cellInv ER (sched m) κ (kcell (c, x))))
          ∗ (bigSep Finset.univ fun x : Cell => reached ER (kcell (c, x)) 0) ∗ positions c ∗ payToks c) : sProp 𝕄)
      ⊢ bigSep Finset.univ (granted m) := by
  unfold granted
  simp only [bigSep_sep']
  iintro ⟨HI, Hr, Hat, Htok⟩
  ihave HI := (Entails.of_eq (bigSep_univ_prod fun y : Dev nD × Cell => (iprop(∃ κ : ℕ, cellInv ER (sched m) κ (kcell y)) : sProp 𝕄)).symm) $$ HI
  ihave Hr := (Entails.of_eq (bigSep_univ_prod fun y : Dev nD × Cell => (reached ER (kcell y) 0 : sProp 𝕄)).symm) $$ Hr
  ihave HI := (BI.bigSep_exists_pi Finset.univ (fun (y : Dev nD × Cell) (κ : ℕ) => (cellInv ER (sched m) κ (kcell y) : sProp 𝕄))) $$ HI
  icases HI with ⟨%K, HI⟩
  isplitl [HI Hr]
  · iapply (show records m K ⊢ bigSep Finset.univ (fun _ : Dev nD => iprop(∃ K, records m K)) from
      BI.bigSep_intro_persistent fun _ _ => Laws.exists_intro (Φ := fun K => records m K) K)
    unfold records
    isplitl [HI] <;> iassumption
  isplitl [Hat] <;> iassumption

/-- All devices' semaphores and ghost state made into what each starts from. -/
theorem glob : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (granted m) :=
  ((bigSep_mono fun c _ => cells_alloc m c).trans (bigSep_fupd _ _)).trans (BI.fupd_mono (agreed m))

/-! ## The credit -/

/-- What the payments numbered below `n` bring to a cell, over all devices. -/
theorem owed_sum (c : Dev nD) (x : Cell) : ∀ n, (∑ d : Dev nD, owed d n (kcell (c, x)) ()) = ∑ j ∈ Finset.range n, if x = paid j then amt j else 0
  | 0 => Finset.sum_eq_zero fun d _ => rfl
  | n + 1 => by
    have h : ∀ d : Dev nD, owed d (n + 1) (kcell (c, x)) () = owed d n (kcell (c, x)) ()
        + if d = (payee n).symm c then (if x = paid n then amt n else 0) else 0 := fun d => by
      show owed d n (kcell (c, x)) () + tallyAt (kcell (payee n d, paid n)) () (amt n) (kcell (c, x)) () = _
      rw [tallyAt_apply]
      congr 1
      by_cases hd : d = (payee n).symm c
      · rw [if_pos hd, hd, Equiv.apply_symm_apply]
        by_cases hx : x = paid n
        · rw [if_pos hx, hx, if_pos ⟨rfl, rfl⟩]
        · rw [if_neg hx, if_neg fun e => hx (congrArg Prod.snd (kcell_injective e.1))]
      · rw [if_neg hd, if_neg fun e => hd ((Equiv.eq_symm_apply _).mpr (congrArg Prod.fst (kcell_injective e.1)).symm)]
    rw [Finset.sum_congr rfl fun d _ => h d, Finset.sum_add_distrib, owed_sum c x n, Finset.sum_ite_eq' Finset.univ,
      if_pos (Finset.mem_univ _), Finset.sum_range_succ]

theorem due_eq (x : Cell) : (∑ j ∈ Finset.range 10, if x = paid j then amt j else 0) = due x := by
  simp only [Finset.sum_range_succ, Finset.sum_range_zero]
  generalize hN : N = n
  unfold amt due
  rw [hN]
  revert x
  rintro (u | ⟨a, k⟩)
  · rfl
  · fin_cases a <;> fin_cases k <;> simp [paid]

/-- The launch's credit for a device's cells is what is due to them. -/
theorem creds_intro (c : Dev nD) : (Pipeline.launchCred (fun d => owed d 10) c : sProp 𝕄) ⊢ creds c := by
  have h (x : Cell) : tallyOn (kcell (c, x)) (launchCredit (Pipeline.owing fun d => owed d 10) 0 (kcell (c, x)))
      = (tallyAt (kcell (c, x)) () (due x) : CellTallies nD τ sig Unit) := by
    unfold tallyAt
    refine congrArg _ (Finsupp.ext fun u => ?_)
    cases u
    rw [Pipeline.launchCredit_owing, Finsupp.single_eq_same, owed_sum, due_eq]
  unfold Pipeline.launchCred creds
  refine (BI.bigSep_subset (Finset.subset_univ (Finset.univ.map ⟨csem, csem_injective⟩))).trans ?_
  rw [bigSep_map]
  exact bigSep_mono fun x _ => Entails.of_eq (congrArg (fun t => (cred t : sProp 𝕄)) (h x))

end Cert.Swap

end
-- ==== Proof.Launch.lean ====
/-
The launch: every device's kernel run from any memory with zero counters, for any float values, and what the arrays hold
when all have returned.
-/
module

public import proofs.«01_k».proof.Proof.Deal
public import Idealize.ShloMosaic.Lib.Pipeline.CollectiveSegs

@[expose] public section

noncomputable section

namespace Cert.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device holds around the kernel -/

/-- A scratch buffer whole, at some contents. -/
abbrev scratch (M : Buf4) (c : Dev nD) : sProp 𝕄 := iprop(∃ f, M.view.loc (c : Thread nD τ) ↦{fullShare} f)

/-- What a device holds that its arrays and buffers do not: its part of the agreement, its credit, the levels. -/
def start (c : Dev nD) : sProp 𝕄 := iprop(granted m c ∗ creds c ∗ levAts L lv)
/-- Before the kernel: that, and the scratch buffers. -/
def Φ₀ (c : Dev nD) : sProp 𝕄 := iprop(start m c ∗ scratch sendM c ∗ scratch gotM c ∗ scratch fwdM c)
/-- After it: its semaphores at zero, and the scratch buffers. -/
def Φ₁ (c : Dev nD) : sProp 𝕄 := iprop(zeros c ∗ scratch sendM c ∗ scratch gotM c ∗ scratch fwdM c)

/-- The one point of the kernel's grid: the input as staged, the result as computed, everything owed before, nothing
    after. -/
def dats (_ : Fin 1) (c : Dev nD) : Dat τ (Elt F) Unit ℕ UU ℕ cfg0 c where
  A w := m ((cfg0.win w).arr.view.loc (c : Thread nD τ))
  after w _ := match w with
    | ⟨0, _⟩ => input m c
    | ⟨1, _⟩ => result m c
  Φ t := match t with
    | ⟨0, _⟩ => Φ₀ m c
    | ⟨_ + 1, _⟩ => Φ₁ c
  q _ := fullShare
  owed t := match t with
    | ⟨0, _⟩ => owed c 10
    | ⟨_ + 1, _⟩ => 0

abbrev t₀ : Fin cfg0.N := t0_0
theorem fetch_input : (cfg0.win (0 : Fin 2)).fetch t₀ = true := rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (input m c) ∗ stg c cc0_stg1_0 (result m c))

/-- The scratch buffers cut into slots, in the orders the kernel gives them out; -/
theorem scratch_slots (M : Buf4) (hM : M.IsWhole) (c : Dev nD) (l : List (Fin 4)) (hl : l.Nodup ∧ ∀ s, s ∈ l) :
    (scratch M c : sProp 𝕄) ⊢ slots M c l := by
  iintro ⟨%f, H⟩
  iapply ((whole_slots M hM c l hl.1 hl.2 f).trans (show _ ⊢ slots M c l from .rfl))
  iexact H
/-- and put together again. -/
theorem slots_scratch (M : Buf4) (hM : M.IsWhole) (c : Dev nD) (l : List (Fin 4)) (hl : l.Nodup ∧ ∀ s, s ∈ l) :
    (slots M c l : sProp 𝕄) ⊢ scratch M c :=
  slots_whole M hM c l hl.1 hl.2 (fun _ => Classical.arbitrary _)

/-- The result written on every block is the result. -/
theorem outSo_all (c : Dev nD) : outSo m c Finset.univ ⊢ stg c cc0_stg1_0 (result m c) := by
  unfold outSo
  iintro ⟨%f, %hf, H⟩
  iexists f
  isplitr
  · ipureintro
    exact funext fun i => hf i (Finset.mem_univ _)
  iexact H

/-- The kernel, between what the pipeline hands it and what the pipeline takes back. -/
theorem body_framed (c : Dev nD) :
    bodyPre m c ⊢ WP c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6)
          (fun _ => bodyPost m c) := by
  unfold bodyPre Φ₀ start granted
  iintro ⟨⟨⟨⟨⟨%K, HR⟩, Hpos, Htok⟩, Hcr, Hlev⟩, Hs, Hg, Hw⟩, Ho, ⟨%d0, %g0, %hg0, Hx⟩, ⟨%d1, %g1, %hg1, Hy⟩⟩
  have hx : g0 = input m c := by rw [hg0]; unfold Dat.before; rw [if_pos fetch_input]; rfl
  subst hx
  unfold Dat.owesAt Pipeline.owesWithin
  icases Ho with ⟨%W, %hW, HO⟩
  iapply (body_run m K c fun _ => bodyPost m c)
  isplitl [HR]; · iexact HR
  isplitr []
  · unfold before
    isplitl [Hpos]; · iexact Hpos
    isplitl [Htok]; · iexact Htok
    isplitl [Hcr]; · iexact Hcr
    isplitl [Hlev]; · iexact Hlev
    isplitl [Hs]; · iapply (scratch_slots sendM (Memref.isWhole_whole _) c [0, 1, 2, 3] (by decide)); iexact Hs
    isplitl [Hg]; · iapply (scratch_slots gotM (Memref.isWhole_whole _) c _ (rows_ahead c)); iexact Hg
    isplitl [Hw]; · iapply (scratch_slots fwdM (Memref.isWhole_whole _) c _ (rows_behind c)); iexact Hw
    isplitl [HO]; · unfold Owes; iexists W; iexact HO
    isplitl [Hx]; · unfold inSo; iexact Hx
    unfold outSo
    iexists g1
    isplitr; · ipureintro; exact fun i hi => absurd hi (Finset.notMem_empty _)
    iexact Hy
  unfold after
  iintro ⟨Hz, Hs, Hg, Hw, HO, Hx, Hy⟩
  unfold bodyPost Φ₁
  isplitl [Hz Hs Hg Hw]
  · isplitl [Hz]; · iexact Hz
    isplitl [Hs]; · iapply (slots_scratch sendM (Memref.isWhole_whole _) c _ (rows_ahead c)); iexact Hs
    isplitl [Hg]; · iapply (slots_scratch gotM (Memref.isWhole_whole _) c _ (rows_behind c)); iexact Hg
    iapply (slots_scratch fwdM (Memref.isWhole_whole _) c _ (rows_behind c)); iexact Hw
  isplitl [HO]
  · unfold Owes Dat.owesAt Pipeline.owesWithin
    icases HO with ⟨%W', HO⟩
    iexists W'
    isplitr; · ipureintro; exact fun _ _ => Or.inl trivial
    iexact HO
  isplitl [Hx]
  · iexists (input m c)
    isplitr; · ipureintro; rfl
    unfold inSo
    iexact Hx
  iapply (outSo_all m c)
  iexact Hy

set_option maxRecDepth 4000 in
/-- The pipeline's obligation of the kernel on device `c`. -/
theorem body_obligation (c : Dev nD) : BodyObligation (dats (F := F) m 0 c) (defs₀ (F := F)) 𝒱₀ () Set.univ := fun t => by
  rw [fin_N0 t, bigSep_W0, bigSep_W0]
  simp only [owns_whole_eq]
  exact body_framed m c

/-! ## The launch -/

theorem share_eq (c : Dev nD) (w : Fin cfg0.W) : (dats m 0 c).share w = fullShare := by unfold Dat.share; split <;> rfl

/-- The ghost state at launch: the pipeline's, and the kernel's cells and tokens. -/
def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred (fun d => owed d 10) c ∗ prngReg c (ρ c) ∗ granted m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [zeros_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    have h : lv ((c : Thread nD τ), .dma ((cfg0.win w).sem s)) () ≤ 0 := by
      show lvq ((cfg0.win w).sem s) ≤ 0
      revert w s; decide
    rcases t with ⟨_ | _, ht⟩
    · exact mayWait c _ 10 0 h fun j _ => by split <;> [skip; split] <;> omega
    · exact mayWait c _ 0 0 h fun j hj => absurd hj (Nat.not_lt_zero j)

/-- What an array holds after the run. -/
def final (c : Dev nD) (w : Fin cfg0.W) : Buf (Elt F) ((cfg0.win w).arr.view.loc (c : Thread nD τ)) := (dats m 0 c).arrAt w cfg0.N

theorem final_input (c : Dev nD) : final m c (0 : Fin 2) = m ((c : Thread nD τ).loc main_arg0) :=
  (dats (F := F) m 0 c).arrAt_in (0 : Fin 2) rfl _

theorem final_result (c : Dev nD) : (win0_1.blk (0 : Fin 1)).view.read (Elt F) (final m c (1 : Fin 2)) = result m c := by
  unfold final
  rw [show cfg0.N = t₀.val + 1 from rfl, (dats m 0 c).arrAt_succ (1 : Fin 2) t₀,
    show (cfg0.win (1 : Fin 2)).flush t₀ = true from by decide, if_pos rfl]
  exact View.read_write_univ _ _

set_option maxRecDepth 8000 in
/-- From any memory with zero counters every run of the thirty-two kernels ends, none stuck, with every device's input as
    it was, its result array the result, and every semaphore at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ (win0_1.blk (0 : Fin 1)).view.read (Elt F) (r.2.mem ((c : Thread nD τ).loc main_v1)) = result m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d 10) (howed₀ := fun _ => rfl) (howedN := fun _ => rfl)
    (L := L) (lv := lv) (hL := L_of_ne) (hwaits := waits m)
    (G := dealt m) (G' := granted m) (u₀ := u₀)
    (hu₀ := by
      unfold u₀
      iintro Hu
      ihave H := (ownU_pair _ _) $$ Hu
      icases H with ⟨HP, HX⟩
      imod (fund_swap m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => ⟨((h c).1 (0 : Fin 2)).trans (final_input m c),
      (congrArg ((win0_1.blk (0 : Fin 1)).view.read (Elt F)) ((h c).1 (1 : Fin 2))).trans (final_result m c)⟩,
      sem_eq_zero hs fun c => (h c).2.2⟩)

end Cert.Swap

end
-- ==== Proof.Value.lean ====
/-
The result over the reals: device by device it is a block of columns of the whole array whose blocks of rows the devices
were given.
-/
module

public import proofs.«01_k».proof.Proof.Launch
public import Idealize.ShloMosaic.Lib.Layout
public import Idealize.ShloMosaic.PureOps.Ideal

@[expose] public section

noncomputable section

namespace Cert.Swap

open Cert.KernelIdeal Cert.KernelIdeal.Gen
open Idealize.ShloMosaic
open Idealize.ShloMosaic.TcCoe
open Idealize.SL.Sem

/-! ## The arrays are one block each -/

section
variable {F : FTy → Type} [FloatOps F]

theorem whole_in : (fun a => (win0_0.index (0 : Fin 1)) a * main_arg0.ty.shape.size a) = fun _ => 0 :=
  funext fun a => by fin_cases a <;> decide
theorem whole_out : (fun a => (win0_1.index (0 : Fin 1)) a * main_v1.ty.shape.size a) = fun _ => 0 :=
  funext fun a => by fin_cases a <;> decide

/-- The block of the input is the argument's array, -/
theorem input_eq (m : (ℓ : Loc nD τ sig) → Buf (Elt F) ℓ) (c : Dev nD) : input m c = m ((c : Thread nD τ).loc main_arg0) :=
  Memref.read_access_unit_zero (Elt F) main_arg0 whole_in (fun a => by fin_cases a <;> decide) _

/-- and the block of the result is the result's. -/
theorem output_eq (f : main_v1.ty.Contents (Elt F)) : (win0_1.blk (0 : Fin 1)).view.read (Elt F) f = f :=
  Memref.read_access_unit_zero (Elt F) main_v1 whole_out (fun a => by fin_cases a <;> decide) f
end

/-! ## The mesh of the claim -/

theorem row_at (c : Dev nD) (h : Fin 2) (i : Fin 4) : row (at_ c h i) = i := by revert c h i; decide +kernel
theorem half_at (c : Dev nD) (h : Fin 2) (i : Fin 4) : half (at_ c h i) = h := by revert c h i; decide +kernel
theorem lin_row (c : Dev nD) : Layout.meshLin [2, 4, 4] c.val [1] = (row c).val := by revert c; decide +kernel

/-! ## The travelling tile, over the reals -/

/-- Rounding and widening are the identity over the reals: the tile, unpacked, is the piece it was made of. -/
theorem tile_real (m : (ℓ : Loc nD τ sig) → Buf (Elt Ideal) ℓ) (d : Dev nD) (j : Fin 4) :
    k0_pay6 (tile m d j) = piece m d j := by
  funext x
  refine congrArg (piece m d j) ?_
  exact (Shape.reshapeEquiv_self _ _).trans ((Shape.reshapeEquiv_reshapeEquiv _ _ x).trans (Shape.reshapeEquiv_self _ x))

/-! ## The result -/

variable (m : (ℓ : Loc nD τ sig) → Buf (Elt Ideal) ℓ) (X : (⟨2, ![2048, 2048]⟩ : Shape).Idx → Elt Ideal .f32)

/-- Device `c`'s block of rows, when the devices hold the array `X` cut by rows over the axis of four. -/
abbrev rowsOf (c : Dev nD) : (⟨2, ![512, 2048]⟩ : Shape).Idx → Elt Ideal .f32 :=
  Layout.blockN ⟨2, ![512, 2048]⟩ ⟨2, ![2048, 2048]⟩ (Layout.meshBlock [2, 4, 4] ![[1], []] c) X
/-- Device `c`'s block of columns of `X`. -/
abbrev colsOf (c : Dev nD) : (⟨2, ![2048, 512]⟩ : Shape).Idx → Elt Ideal .f32 :=
  Layout.blockN ⟨2, ![2048, 512]⟩ ⟨2, ![2048, 2048]⟩ (Layout.meshBlock [2, 4, 4] ![[], [1]] c) X

/-- An element of a block of rows is an element of `X`, found by its row and column; -/
theorem rowsOf_eq (c : Dev nD) (y : (⟨2, ![512, 2048]⟩ : Shape).Idx) (z : (⟨2, ![2048, 2048]⟩ : Shape).Idx)
    (h0 : (z 0).val = 512 * (row c).val + (y 0).val) (h1 : (z 1).val = (y 1).val) : rowsOf X c y = X z := by
  refine congrArg X (funext fun a => Fin.ext ?_)
  fin_cases a
  · show Layout.meshLin [2, 4, 4] c.val [1] * 512 + (y 0).val = (z 0).val
    rw [lin_row, h0]
    omega
  · show 0 * 2048 + (y 1).val = (z 1).val
    omega

/-- and so is an element of a block of columns. -/
theorem colsOf_eq (c : Dev nD) (y : (⟨2, ![2048, 512]⟩ : Shape).Idx) (z : (⟨2, ![2048, 2048]⟩ : Shape).Idx)
    (h0 : (z 0).val = (y 0).val) (h1 : (z 1).val = 512 * (row c).val + (y 1).val) : colsOf X c y = X z := by
  refine congrArg X (funext fun a => Fin.ext ?_)
  fin_cases a
  · show 0 * 2048 + (y 0).val = (z 0).val
    omega
  · show Layout.meshLin [2, 4, 4] c.val [1] * 512 + (y 1).val = (z 1).val
    rw [lin_row, h1]
    omega

/-- If every device's argument is its block of rows of `X`, device `c`'s result is its block of columns of `X`. -/
theorem result_real (hX : ∀ c : Dev nD, m ((c : Thread nD τ).loc main_arg0) = rowsOf X c) (c : Dev nD) :
    result m c = colsOf X c := by
  have hin : ∀ d, input m d = rowsOf X d := fun d => (input_eq m d).trans (hX d)
  funext i
  have h0 : (i 0).val < 2048 := (i 0).isLt
  have h1 : (i 1).val < 512 := (i 1).isLt
  have hr : (row c).val < 4 := (row c).isLt
  let z : (⟨2, ![2048, 2048]⟩ : Shape).Idx :=
    Shape.pair (d := ![2048, 2048]) ⟨(i 0).val, h0⟩ ⟨512 * (row c).val + (i 1).val, by show _ < 2048; omega⟩
  refine Eq.trans ?_ (colsOf_eq X c i z rfl rfl).symm
  unfold result blockVal
  split
  · next hb =>
    have hb' : (i 0).val / 256 / 2 = (row c).val := hb
    rw [hin c]
    refine rowsOf_eq X c _ z ?_ rfl
    show (i 0).val = 512 * (row c).val + (256 * ((i 0).val / 256 % 2) + (i 0).val % 256)
    omega
  · rw [tile_real]
    unfold piece
    rw [hin]
    refine rowsOf_eq X _ _ z ?_ ?_
    · show (i 0).val = 512 * (row (at_ c _ _)).val + (256 * (half (at_ c _ _)).val + 1 * ((i 0).val % 256))
      rw [row_at, half_at]
      show (i 0).val = 512 * ((i 0).val / 256 / 2) + (256 * ((i 0).val / 256 % 2) + 1 * ((i 0).val % 256))
      omega
    · show 512 * (row c).val + (i 1).val = 512 * (row c).val + 1 * (i 1).val
      omega

end Cert.Swap

end
-- ==== Proof.Ref.lean ====
/-
The reference's run: its program returns its argument and does nothing else.
-/
module

public import proofs.«01_k».proof.Proof.Gen.ReferenceIdeal
public import Idealize.ShloMosaic.Lib.StableHlo.Run
public import Idealize.ShloMosaic.Lib.Quiescent

@[expose] public section

noncomputable section

namespace Cert.Swap.Ref

open Cert.ReferenceIdeal Cert.ReferenceIdeal.Gen
open Idealize.ShloMosaic Idealize.ShloMosaic.TcCoe Idealize.SL.Sem

variable {F : FTy → Type} [FloatOps F]

/-- From any memory with zero counters the reference terminates, its argument what it was and every counter zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ
      (fun _ _ h => nomatch h))

end Cert.Swap.Ref

end
-- ==== Proof.lean ====
/-
The claims: the kernel and its reading over the reals, and the reference, terminate with their arguments kept and their
semaphore counters zero; and over the reals the kernel's result is the reference's, block of columns by block of columns.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import proofs.«01_k».proof.Proof.Ref

@[expose] public section

noncomputable section

namespace Cert.Proof

open Idealize.ShloMosaic Idealize.SL.Sem

section
variable {F : FTy → Type} [FloatOps F]

/-- The kernel and its reading over the reals have the same text: the same table of bodies, -/
theorem bodies_eq : Cert.Kernel.defs₀ (F := F) = Cert.KernelIdeal.defs₀ (F := F) := by
  refine congrArg Defs.onTc (funext fun ℓ => funext fun a => ?_)
  match ℓ, a with
  | 0, (t, s) => rfl
  | ⟨n + 1, h⟩, _ => exact absurd h (by omega)

/-- with the call's region and pipeline. -/
theorem defs_eq : Cert.Kernel.defs (F := F) = Cert.KernelIdeal.defs (F := F) :=
  congrArg (Pipeline.defs Cert.KernelIdeal.pcfgs) bodies_eq
end

/-- The kernel, bit by bit: its run is the one written for any float values. -/
theorem frame_kernel : Cert.quiescent_Kernel := fun m ρ _ => by
  rw [defs_eq]
  exact (θ_run Cert.KernelIdeal.defs _ _).mono (fun _ h => ⟨fun c => (h.1 c).1, h.2⟩) (Cert.Swap.run_main (F := Bits) m ρ)

/-- The same over the reals. -/
theorem frame_ideal : Cert.quiescent_KernelIdeal := fun m ρ _ =>
  (θ_run Cert.KernelIdeal.defs _ _).mono (fun _ h => ⟨fun c => (h.1 c).1, h.2⟩) (Cert.Swap.run_main (F := Ideal) m ρ)

/-- The reference. -/
theorem frame_reference : Cert.quiescent_ReferenceIdeal := fun m ρ _ => Cert.Swap.Ref.run_main (F := Ideal) m ρ

/-- Over the reals each device ends with its block of columns of the array whose block of rows it was given. -/
theorem value : Cert.algebraic_KernelIdeal_ReferenceIdeal := fun m ρ m' ρ' _ hX =>
  ⟨_, (θ_run Cert.KernelIdeal.defs _ _).mono
      (fun _ h c => ⟨(Cert.Swap.output_eq _).symm.trans ((h.1 c).2.trans (Cert.Swap.result_real m _ hX c)), (h.1 c).1⟩)
      (Cert.Swap.run_main (F := Ideal) m ρ),
    (θ_run Cert.ReferenceIdeal.defs _ _).mono (fun _ h => ⟨h.1 0, h.1 0⟩) (Cert.Swap.Ref.run_main (F := Ideal) m' ρ')⟩

/-- Every claim of the certificate. -/
theorem claim : Cert.Claim := ⟨Cert.Kernel.Gen.facts, Cert.KernelIdeal.Gen.facts, Cert.ReferenceIdeal.Gen.facts,
  frame_kernel, frame_ideal, frame_reference, trivial, value⟩

end Cert.Proof

end
